-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_dims_in_tile [hPre_dims_in_tile : Cert.Pre_dims_in_tile.Facts] (m : (ℓ : Loc Cert.KernelIdeal.nD Cert.KernelIdeal.τ Cert.KernelIdeal.sig) → Buf (Elt Ideal) ℓ) : Prop :=
  ∀ c : Dev Cert.KernelIdeal.nD,
    (Cert.Pre_dims_in_tile.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_dims_in_tile [hPre_dims_in_tile : Cert.Pre_dims_in_tile.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dims_in_tile.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_dims_in_tile [hKernelIdeal : Cert.KernelIdeal.Facts] [hPre_dims_in_tile : Cert.Pre_dims_in_tile.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_dims_in_tile m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_dims_in_tile [hReferenceIdeal : Cert.ReferenceIdeal.Facts] [hPre_dims_in_tile : Cert.Pre_dims_in_tile.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_dims_in_tile m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.Statement Cert.KernelIdeal.S256x128 Cert.KernelIdeal.S128x128

def algebraic_KernelIdeal_ReferenceIdeal_pre_dims_in_tile [hKernelIdeal : Cert.KernelIdeal.Facts] [hReferenceIdeal : Cert.ReferenceIdeal.Facts] [hPre_dims_in_tile : Cert.Pre_dims_in_tile.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_dims_in_tile m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v105) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_dims_in_tile : Cert.Pre_dims_in_tile.Facts),
    quiescent_Kernel (hKernel := hKernel)
    ∧ quiescent_KernelIdeal (hKernelIdeal := hKernelIdeal)
    ∧ quiescent_KernelIdeal_pre_dims_in_tile (hKernelIdeal := hKernelIdeal) (hPre_dims_in_tile := hPre_dims_in_tile)
    ∧ quiescent_ReferenceIdeal (hReferenceIdeal := hReferenceIdeal)
    ∧ quiescent_ReferenceIdeal_pre_dims_in_tile (hReferenceIdeal := hReferenceIdeal) (hPre_dims_in_tile := hPre_dims_in_tile)
    ∧ preserves_Kernel_KernelIdeal
    ∧ algebraic_KernelIdeal_ReferenceIdeal_pre_dims_in_tile (hKernelIdeal := hKernelIdeal) (hReferenceIdeal := hReferenceIdeal) (hPre_dims_in_tile := hPre_dims_in_tile)
-- ==== Pre_dims_in_tile.lean ====
abbrev S2x128x7168 : Shape := ⟨3, ![2, 128, 7168]⟩
abbrev S224x4 : Shape := ⟨2, ![224, 4]⟩
abbrev S224x15 : Shape := ⟨2, ![224, 15]⟩
abbrev S224x16x18432 : Shape := ⟨3, ![224, 16, 18432]⟩
abbrev S224 : Shape := ⟨1, ![224]⟩
abbrev S_ : Shape := ⟨0, ![]⟩

class Facts : Prop where
  bcast_S_S224x4 : S_.BroadcastsInDim S224x4 (![] : Fin 0 → Fin S224x4.rank)

variable [Facts]

def fn {F : FTy → Type} [FloatOps F] (main_arg0 : FVec F S2x128x7168 .bf16) (main_arg1 : IVec S224x4 32) (main_arg2 : FVec F S224x15 .bf16) (main_arg3 : IVec S224x16x18432 8) (main_arg4 : FVec F S224 .f32) : IVec S224x4 1 :=
  let main_v0 : IVec S224x4 32 := iotaInDim S224x4 32 0
  let main_c : IVec S_ 32 := constantI S_ 32 32#32
  let main_v1 : IVec S224x4 32 := broadcastInDim S224x4 ![] bcast_S_S224x4 main_c
  let main_v2 : IVec S224x4 32 := muli main_v1 main_v0
  let main_c_0 : IVec S_ 32 := constantI S_ 32 4294967168#32
  let main_v3 : IVec S224x4 32 := broadcastInDim S224x4 ![] bcast_S_S224x4 main_c_0
  let main_v4 : IVec S224x4 32 := andi main_v2 main_v3
  let main_v5 : IVec S224x4 1 := cmpi .sge main_arg1 main_v4
  let main_c_1 : IVec S_ 32 := constantI S_ 32 128#32
  let main_v6 : IVec S224x4 32 := broadcastInDim S224x4 ![] bcast_S_S224x4 main_c_1
  let main_v7 : IVec S224x4 32 := addi main_v4 main_v6
  let main_v8 : IVec S224x4 1 := cmpi .slt main_arg1 main_v7
  let main_v9 : IVec S224x4 1 := andi main_v5 main_v8
  main_v9
-- ==== Kernel.lean ====
abbrev S2x128x7168 : Shape := ⟨3, ![2, 128, 7168]⟩
abbrev S224x4 : Shape := ⟨2, ![224, 4]⟩
abbrev S224x15 : Shape := ⟨2, ![224, 15]⟩
abbrev S224x16x18432 : Shape := ⟨3, ![224, 16, 18432]⟩
abbrev S224 : Shape := ⟨1, ![224]⟩
abbrev S256x7168 : Shape := ⟨2, ![256, 7168]⟩
abbrev S256x18432 : Shape := ⟨2, ![256, 18432]⟩
abbrev S256x224 : Shape := ⟨2, ![256, 224]⟩
abbrev S224x16x512 : Shape := ⟨3, ![224, 16, 512]⟩
abbrev S256x512 : Shape := ⟨2, ![256, 512]⟩
abbrev S256x3584 : Shape := ⟨2, ![256, 3584]⟩
abbrev S4x224 : Shape := ⟨2, ![4, 224]⟩
abbrev S15x224 : Shape := ⟨2, ![15, 224]⟩
abbrev S1x128 : Shape := ⟨2, ![1, 128]⟩
abbrev S1x32 : Shape := ⟨2, ![1, 32]⟩
abbrev S256x128 : Shape := ⟨2, ![256, 128]⟩
abbrev S128x128 : Shape := ⟨2, ![128, 128]⟩
abbrev S256x128x1 : Shape := ⟨3, ![256, 128, 1]⟩
abbrev S1x96 : Shape := ⟨2, ![1, 96]⟩
abbrev S256x32 : Shape := ⟨2, ![256, 32]⟩
abbrev S16x16x512 : Shape := ⟨3, ![16, 16, 512]⟩
abbrev S1 : Shape := ⟨1, ![1]⟩
abbrev S1x1x512 : Shape := ⟨3, ![1, 1, 512]⟩
abbrev S16x1x512 : Shape := ⟨3, ![16, 1, 512]⟩
abbrev S256x256 : Shape := ⟨2, ![256, 256]⟩
abbrev S2x128x18432 : Shape := ⟨3, ![2, 128, 18432]⟩
abbrev S2x128x224 : Shape := ⟨3, ![2, 128, 224]⟩

abbrev nBuf : Space → Nat
  | .hbm => 10
  | .vmem => 9
  | .smem => 1
  | _ => 0

abbrev bufTy : (tb : Table) → Fin (tcTables nBuf tb) → BufTy
  | .hbm, ⟨0, _⟩ => ⟨S2x128x7168, .bf16⟩
  | .hbm, ⟨1, _⟩ => ⟨S224x4, .i32⟩
  | .hbm, ⟨2, _⟩ => ⟨S224x15, .bf16⟩
  | .hbm, ⟨3, _⟩ => ⟨S224x16x18432, .i8⟩
  | .hbm, ⟨4, _⟩ => ⟨S224, .f32⟩
  | .hbm, ⟨5, _⟩ => ⟨S256x7168, .bf16⟩
  | .hbm, ⟨6, _⟩ => ⟨S256x18432, .bf16⟩
  | .hbm, ⟨7, _⟩ => ⟨S256x224, .i8⟩
  | .hbm, ⟨8, _⟩ => ⟨S2x128x18432, .bf16⟩
  | .hbm, ⟨9, _⟩ => ⟨S2x128x224, .i8⟩
  | .local _ .vmem, ⟨0, _⟩ => ⟨S256x7168, .bf16⟩
  | .local _ .vmem, ⟨1, _⟩ => ⟨S224x4, .i32⟩
  | .local _ .vmem, ⟨2, _⟩ => ⟨S224x15, .bf16⟩
  | .local _ .vmem, ⟨3, _⟩ => ⟨S224x16x512, .i8⟩
  | .local _ .vmem, ⟨4, _⟩ => ⟨S224x16x512, .i8⟩
  | .local _ .vmem, ⟨5, _⟩ => ⟨S256x512, .bf16⟩
  | .local _ .vmem, ⟨6, _⟩ => ⟨S256x512, .bf16⟩
  | .local _ .vmem, ⟨7, _⟩ => ⟨S256x224, .i8⟩
  | .local _ .vmem, ⟨8, _⟩ => ⟨S256x3584, .bf16⟩
  | .local _ .smem, ⟨0, _⟩ => ⟨S224, .f32⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_scratch0 : Ref sig .tc := ⟨.vmem, 8, rfl⟩
abbrev cc0_stg4_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [BitOps F]

abbrev grid0 : Pipeline.Grid := ⟨1, ![36], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S224x4 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S224x15 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S224x16x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S224 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x224 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F]
-- ==== ReferenceIdeal.lean ====
abbrev S2x128x7168 : Shape := ⟨3, ![2, 128, 7168]⟩
abbrev S224x4 : Shape := ⟨2, ![224, 4]⟩
abbrev S224x15 : Shape := ⟨2, ![224, 15]⟩
abbrev S224x16x18432 : Shape := ⟨3, ![224, 16, 18432]⟩
abbrev S224 : Shape := ⟨1, ![224]⟩
abbrev S_ : Shape := ⟨0, ![]⟩
abbrev S224x4x1 : Shape := ⟨3, ![224, 4, 1]⟩
abbrev S2x128x224x4 : Shape := ⟨4, ![2, 128, 224, 4]⟩
abbrev S2x128x224 : Shape := ⟨3, ![2, 128, 224]⟩
abbrev S2x128x224x1 : Shape := ⟨4, ![2, 128, 224, 1]⟩
abbrev S2x128x224x2 : Shape := ⟨4, ![2, 128, 224, 2]⟩
abbrev S16 : Shape := ⟨1, ![16]⟩
abbrev S1x1x1x16 : Shape := ⟨4, ![1, 1, 1, 16]⟩
abbrev S2x128x224x16 : Shape := ⟨4, ![2, 128, 224, 16]⟩
abbrev S224x1x1 : Shape := ⟨3, ![224, 1, 1]⟩
abbrev S2x128x18432 : Shape := ⟨3, ![2, 128, 18432]⟩

abbrev nBuf : Space → Nat
  | .hbm => 154
  | .vmem => 0
  | .smem => 0
  | _ => 0

abbrev hbmTy0_0 (i : Nat) : BufTy := match i % 128 with
  | 0 => ⟨S2x128x7168, .bf16⟩
  | 1 => ⟨S224x4, .i32⟩
  | 2 => ⟨S224x15, .bf16⟩
  | 3 => ⟨S224x16x18432, .i8⟩
  | 4 => ⟨S224, .f32⟩
  | 5 => ⟨S_, .i32⟩
  | 6 => ⟨S224x4, .i32⟩
  | 7 => ⟨S224x4, .i1⟩
  | 8 => ⟨S_, .i32⟩
  | 9 => ⟨S224x4, .i32⟩
  | 10 => ⟨S224x4, .i32⟩
  | 11 => ⟨S224x4, .i32⟩
  | 12 => ⟨S224x4x1, .i32⟩
  | 13 => ⟨S2x128x224x4, .bf16⟩
  | 14 => ⟨S224, .i32⟩
  | 15 => ⟨S_, .i32⟩
  | 16 => ⟨S2x128x224, .i32⟩
  | 17 => ⟨S_, .i32⟩
  | 18 => ⟨S2x128x224, .i32⟩
  | 19 => ⟨S2x128x224, .i32⟩
  | 20 => ⟨S_, .i32⟩
  | 21 => ⟨S224, .i32⟩
  | 22 => ⟨S224, .i1⟩
  | 23 => ⟨S_, .i32⟩
  | 24 => ⟨S224, .i32⟩
  | 25 => ⟨S224, .i32⟩
  | 26 => ⟨S224, .i32⟩
  | 27 => ⟨S_, .i32⟩
  | 28 => ⟨S2x128x224, .i32⟩
  | 29 => ⟨S2x128x224, .i1⟩
  | 30 => ⟨S_, .i32⟩
  | 31 => ⟨S2x128x224, .i32⟩
  | 32 => ⟨S2x128x224, .i32⟩
  | 33 => ⟨S2x128x224, .i32⟩
  | 34 => ⟨S2x128x224, .i32⟩
  | 35 => ⟨S2x128x224x1, .i32⟩
  | 36 => ⟨S2x128x224x1, .i32⟩
  | 37 => ⟨S2x128x224x2, .i32⟩
  | 38 => ⟨S2x128x224, .bf16⟩
  | 39 => ⟨S2x128x224x1, .bf16⟩
  | 40 => ⟨S2x128x224, .bf16⟩
  | 41 => ⟨S2x128x224, .i1⟩
  | 42 => ⟨S2x128x224, .i32⟩
  | 43 => ⟨S_, .i32⟩
  | 44 => ⟨S2x128x224, .i32⟩
  | 45 => ⟨S2x128x224, .i32⟩
  | 46 => ⟨S2x128x224, .i32⟩
  | 47 => ⟨S_, .i32⟩
  | 48 => ⟨S2x128x224, .i32⟩
  | 49 => ⟨S2x128x224, .i32⟩
  | 50 => ⟨S_, .i32⟩
  | 51 => ⟨S224, .i32⟩
  | 52 => ⟨S224, .i1⟩
  | 53 => ⟨S_, .i32⟩
  | 54 => ⟨S224, .i32⟩
  | 55 => ⟨S224, .i32⟩
  | 56 => ⟨S224, .i32⟩
  | 57 => ⟨S_, .i32⟩
  | 58 => ⟨S2x128x224, .i32⟩
  | 59 => ⟨S2x128x224, .i1⟩
  | 60 => ⟨S_, .i32⟩
  | 61 => ⟨S2x128x224, .i32⟩
  | 62 => ⟨S2x128x224, .i32⟩
  | 63 => ⟨S2x128x224, .i32⟩
  | 64 => ⟨S2x128x224, .i32⟩
  | 65 => ⟨S2x128x224x1, .i32⟩
  | 66 => ⟨S2x128x224x1, .i32⟩
  | 67 => ⟨S2x128x224x2, .i32⟩
  | 68 => ⟨S2x128x224, .bf16⟩
  | 69 => ⟨S2x128x224x1, .bf16⟩
  | 70 => ⟨S2x128x224, .bf16⟩
  | 71 => ⟨S2x128x224, .i1⟩
  | 72 => ⟨S2x128x224, .i32⟩
  | 73 => ⟨S_, .i32⟩
  | 74 => ⟨S2x128x224, .i32⟩
  | 75 => ⟨S2x128x224, .i32⟩
  | 76 => ⟨S2x128x224, .i32⟩
  | 77 => ⟨S_, .i32⟩
  | 78 => ⟨S2x128x224, .i32⟩
  | 79 => ⟨S2x128x224, .i32⟩
  | 80 => ⟨S_, .i32⟩
  | 81 => ⟨S224, .i32⟩
  | 82 => ⟨S224, .i1⟩
  | 83 => ⟨S_, .i32⟩
  | 84 => ⟨S224, .i32⟩
  | 85 => ⟨S224, .i32⟩
  | 86 => ⟨S224, .i32⟩
  | 87 => ⟨S_, .i32⟩
  | 88 => ⟨S2x128x224, .i32⟩
  | 89 => ⟨S2x128x224, .i1⟩
  | 90 => ⟨S_, .i32⟩
  | 91 => ⟨S2x128x224, .i32⟩
  | 92 => ⟨S2x128x224, .i32⟩
  | 93 => ⟨S2x128x224, .i32⟩
  | 94 => ⟨S2x128x224, .i32⟩
  | 95 => ⟨S2x128x224x1, .i32⟩
  | 96 => ⟨S2x128x224x1, .i32⟩
  | 97 => ⟨S2x128x224x2, .i32⟩
  | 98 => ⟨S2x128x224, .bf16⟩
  | 99 => ⟨S2x128x224x1, .bf16⟩
  | 100 => ⟨S2x128x224, .bf16⟩
  | 101 => ⟨S2x128x224, .i1⟩
  | 102 => ⟨S2x128x224, .i32⟩
  | 103 => ⟨S_, .i32⟩
  | 104 => ⟨S2x128x224, .i32⟩
  | 105 => ⟨S2x128x224, .i32⟩
  | 106 => ⟨S2x128x224, .i32⟩
  | 107 => ⟨S_, .i32⟩
  | 108 => ⟨S2x128x224, .i32⟩
  | 109 => ⟨S2x128x224, .i32⟩
  | 110 => ⟨S_, .i32⟩
  | 111 => ⟨S224, .i32⟩
  | 112 => ⟨S224, .i1⟩
  | 113 => ⟨S_, .i32⟩
  | 114 => ⟨S224, .i32⟩
  | 115 => ⟨S224, .i32⟩
  | 116 => ⟨S224, .i32⟩
  | 117 => ⟨S_, .i32⟩
  | 118 => ⟨S2x128x224, .i32⟩
  | 119 => ⟨S2x128x224, .i1⟩
  | 120 => ⟨S_, .i32⟩
  | 121 => ⟨S2x128x224, .i32⟩
  | 122 => ⟨S2x128x224, .i32⟩
  | 123 => ⟨S2x128x224, .i32⟩
  | 124 => ⟨S2x128x224, .i32⟩
  | 125 => ⟨S2x128x224x1, .i32⟩
  | 126 => ⟨S2x128x224x1, .i32⟩
  | 127 => ⟨S2x128x224x2, .i32⟩
  | _ => ⟨S2x128x7168, .bf16⟩

abbrev hbmTy0_1 (i : Nat) : BufTy := match i % 128 with
  | 0 => ⟨S2x128x224, .bf16⟩
  | 1 => ⟨S2x128x224x1, .bf16⟩
  | 2 => ⟨S2x128x224, .bf16⟩
  | 3 => ⟨S2x128x224, .i1⟩
  | 4 => ⟨S2x128x224, .i32⟩
  | 5 => ⟨S_, .i32⟩
  | 6 => ⟨S2x128x224, .i32⟩
  | 7 => ⟨S2x128x224, .i32⟩
  | 8 => ⟨S2x128x224, .i32⟩
  | 9 => ⟨S2x128x224, .i8⟩
  | 10 => ⟨S2x128x224x1, .i8⟩
  | 11 => ⟨S16, .i32⟩
  | 12 => ⟨S16, .i8⟩
  | 13 => ⟨S1x1x1x16, .i8⟩
  | 14 => ⟨S2x128x224x16, .i8⟩
  | 15 => ⟨S2x128x224x16, .i8⟩
  | 16 => ⟨S2x128x224x16, .i1⟩
  | 17 => ⟨S2x128x224x16, .bf16⟩
  | 18 => ⟨S224x16x18432, .i32⟩
  | 19 => ⟨S224x16x18432, .bf16⟩
  | 20 => ⟨S224, .bf16⟩
  | 21 => ⟨S224x1x1, .bf16⟩
  | 22 => ⟨S224x16x18432, .bf16⟩
  | 23 => ⟨S224x16x18432, .bf16⟩
  | 24 => ⟨S2x128x18432, .f32⟩
  | 25 => ⟨S2x128x18432, .bf16⟩
  | _ => ⟨S2x128x7168, .bf16⟩

abbrev hbmTy (i : Nat) : BufTy := match i / 128 with
  | 0 => hbmTy0_0 i
  | 1 => hbmTy0_1 i
  | _ => ⟨S2x128x7168, .bf16⟩

abbrev bufTy : (tb : Table) → Fin (tcTables nBuf tb) → BufTy
  | .hbm, ⟨i, _⟩ => hbmTy i
  | _, _ => ⟨S2x128x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_c_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_5 : Ref sig .tc := ⟨.hbm, 27, rfl⟩
abbrev main_v16 : Ref sig .tc := ⟨.hbm, 28, rfl⟩
abbrev main_v17 : Ref sig .tc := ⟨.hbm, 29, rfl⟩
abbrev main_c_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_8 : Ref sig .tc := ⟨.hbm, 47, rfl⟩
abbrev main_v33 : Ref sig .tc := ⟨.hbm, 48, rfl⟩
abbrev main_v34 : Ref sig .tc := ⟨.hbm, 49, rfl⟩
abbrev main_c_9 : Ref sig .tc := ⟨.hbm, 50, rfl⟩
abbrev main_v35 : Ref sig .tc := ⟨.hbm, 51, rfl⟩
abbrev main_v36 : Ref sig .tc := ⟨.hbm, 52, rfl⟩
abbrev main_c_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_11 : Ref sig .tc := ⟨.hbm, 57, rfl⟩
abbrev main_v40 : Ref sig .tc := ⟨.hbm, 58, rfl⟩
abbrev main_v41 : Ref sig .tc := ⟨.hbm, 59, rfl⟩
abbrev main_c_12 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_13 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_14 : Ref sig .tc := ⟨.hbm, 77, rfl⟩
abbrev main_v57 : Ref sig .tc := ⟨.hbm, 78, rfl⟩
abbrev main_v58 : Ref sig .tc := ⟨.hbm, 79, rfl⟩
abbrev main_c_15 : Ref sig .tc := ⟨.hbm, 80, rfl⟩
abbrev main_v59 : Ref sig .tc := ⟨.hbm, 81, rfl⟩
abbrev main_v60 : Ref sig .tc := ⟨.hbm, 82, rfl⟩
abbrev main_c_16 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_17 : Ref sig .tc := ⟨.hbm, 87, rfl⟩
abbrev main_v64 : Ref sig .tc := ⟨.hbm, 88, rfl⟩
abbrev main_v65 : Ref sig .tc := ⟨.hbm, 89, rfl⟩
abbrev main_c_18 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_c_19 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_c_20 : Ref sig .tc := ⟨.hbm, 107, rfl⟩
abbrev main_v81 : Ref sig .tc := ⟨.hbm, 108, rfl⟩
abbrev main_v82 : Ref sig .tc := ⟨.hbm, 109, rfl⟩
abbrev main_c_21 : Ref sig .tc := ⟨.hbm, 110, rfl⟩
abbrev main_v83 : Ref sig .tc := ⟨.hbm, 111, rfl⟩
abbrev main_v84 : Ref sig .tc := ⟨.hbm, 112, rfl⟩
abbrev main_c_22 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_c_23 : Ref sig .tc := ⟨.hbm, 117, rfl⟩
abbrev main_v88 : Ref sig .tc := ⟨.hbm, 118, rfl⟩
abbrev main_v89 : Ref sig .tc := ⟨.hbm, 119, rfl⟩
abbrev main_c_24 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_c_25 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩

abbrev nD : Nat := 1
abbrev τ : Topo := Topo.v7x

variable {F : FTy → Type} [FloatOps F]
-- ==== Proof.KRuns.lean ====
/-
  What the two runs of the ideal kernel's body share: the branch condition in closed form over the grid points, the staging
  memrefs at a point, and the region's invariant with the scratch owned at some contents.
-/
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 36 = 0 :=
  (fun t => by
    have ht : t.val < 36 := Nat.lt_of_lt_of_eq t.isLt N_0
    have e0 : (grid0.coords t 0).val = t.val / 1 % 36 := Pipeline.Grid.coords_val t 0 (by decide) rfl
    simp only [cond0_0, e0]
    word_cmp
   : ∀ t : Fin grid0.N, cond0_0 (grid0.coords t) ↔ t.val % 36 = 0)

/-! ## The kernel body on any staging memrefs: a subtype the run finds -/

/-- One staging buffer of output window 5, through which its contents are stated (`View.read_writes_of_cover`: the
    choice does not matter). -/
abbrev VO0_5 : View sig .tc .vmem S256x512 .bf16 := (Memref.whole cc0_stg5_0 : Memref sig .tc .vmem S256x512 .bf16).view
/-- One staging buffer of output window 6, through which its contents are stated (`View.read_writes_of_cover`: the
    choice does not matter). -/
abbrev VO0_6 : View sig .tc .vmem S256x224 .i8 := (Memref.whole cc0_stg6_0 : Memref sig .tc .vmem S256x224 .i8).view
/-- Each window's current staging memref at point `t`, spelled as the pipeline passes it (`bodyAt0`), and its wholeness. -/
abbrev ms0_0 (t : Fin cfg0.N) : Memref sig .tc .vmem S256x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S224x4 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S224x15 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S224x16x512 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S224 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x224 .i8 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S256x3584 .bf16 := Memref.whole cc0_scratch0
/-- The scratch `arg8` the kernel carries between points, as a view: what it holds is stated through it. -/
abbrev VS0_0 : View sig .tc .vmem S256x3584 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KRunA.lean ====
/-
  The run of the ideal kernel's body at grid point 0, by symbolic execution of its skeleton.
-/
module

public import proofs.«01_k».proof.Proof.KRuns

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 2584000 in
/-- The body at grid point 0, where the branch is taken: the pieces its stores leave in the `y` block (`L5`), in the codes
    block (`L6`) and in the one-hot scratch (`LS0`), last first, with the proof that on whole memrefs the body runs to the
    continuation holding the inputs as they were and those three buffers with their pieces written. -/
noncomputable def kernelRun0_A (c : Dev nD) (i : grid0.Coords) (arg1 : Memref sig .tc .vmem S256x7168 .bf16) (harg1 : arg1.IsWhole) (arg2 : Memref sig .tc .vmem S224x4 .i32) (harg2 : arg2.IsWhole) (arg3 : Memref sig .tc .vmem S224x15 .bf16) (harg3 : arg3.IsWhole) (arg4 : Memref sig .tc .vmem S224x16x512 .i8) (harg4 : arg4.IsWhole) (arg5 : Memref sig .tc .smem S224 .f32) (harg5 : arg5.IsWhole) (arg6 : Memref sig .tc .vmem S256x512 .bf16) (harg6 : arg6.IsWhole) (arg7 : Memref sig .tc .vmem S256x224 .i8) (harg7 : arg7.IsWhole) (arg8 : Memref sig .tc .vmem S256x3584 .bf16) (harg8 : arg8.IsWhole) (hc0 : cond0_0 i)
    (x0 : Vec F S256x7168 .bf16) (x1 : Vec F S224x4 .i32) (x2 : Vec F S224x15 .bf16) (x3 : Vec F S224x16x512 .i8) (x4 : Vec F S224 .f32) :
    Σ' (L5 : List (View.Piece (Elt F) S256x512 .bf16)), Σ' (L6 : List (View.Piece (Elt F) S256x224 .i8)), { LS0 : List (View.Piece (Elt F) S256x3584 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc0_maddness i arg1 harg1 arg2 harg2 arg3 harg3 arg4 harg4 arg5 harg5 arg6 harg6 arg7 harg7 arg8 harg8) K } := by
  refine ⟨?_, ?_, ?_, fun E K => ?run⟩
  case run =>
    simp only [cc0_maddness_eq_skeleton]; unfold cc0_maddness_skel
    simp only [k0_part83_eq_skeleton, k0_part82_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact HS0

end Cert.KernelIdeal.Hand

end
-- ==== Proof.KRunB.lean ====
/-
  The run of the ideal kernel's body at the later grid points, by symbolic execution of its skeleton.
-/
module

public import proofs.«01_k».proof.Proof.KRunA

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1188000 in
/-- The body at a later grid point, where the branch is not taken: the pieces its stores leave in the `y` block, with the
    proof that on whole memrefs the body runs to the continuation holding the inputs and the one-hot scratch as they were. The codes
    block is not touched. -/
noncomputable def kernelRun0_B (c : Dev nD) (i : grid0.Coords) (arg1 : Memref sig .tc .vmem S256x7168 .bf16) (harg1 : arg1.IsWhole) (arg2 : Memref sig .tc .vmem S224x4 .i32) (harg2 : arg2.IsWhole) (arg3 : Memref sig .tc .vmem S224x15 .bf16) (harg3 : arg3.IsWhole) (arg4 : Memref sig .tc .vmem S224x16x512 .i8) (harg4 : arg4.IsWhole) (arg5 : Memref sig .tc .smem S224 .f32) (harg5 : arg5.IsWhole) (arg6 : Memref sig .tc .vmem S256x512 .bf16) (harg6 : arg6.IsWhole) (arg7 : Memref sig .tc .vmem S256x224 .i8) (harg7 : arg7.IsWhole) (arg8 : Memref sig .tc .vmem S256x3584 .bf16) (harg8 : arg8.IsWhole) (hc0 : ¬cond0_0 i)
    (x0 : Vec F S256x7168 .bf16) (x1 : Vec F S224x4 .i32) (x2 : Vec F S224x15 .bf16) (x3 : Vec F S224x16x512 .i8) (x4 : Vec F S224 .f32) (xs0 : Vec F S256x3584 .bf16) :
    { L5 : List (View.Piece (Elt F) S256x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg8 fullShare xs0) -∗ K ⟨⟩))
          ⊢ wp frame (wpE (defs₀ (F := F)) Variants.none c none) E (cc0_maddness i arg1 harg1 arg2 harg2 arg3 harg3 arg4 harg4 arg5 harg5 arg6 harg6 arg7 harg7 arg8 harg8) K } := by
  refine ⟨?_, fun E K => ?run⟩
  case run =>
    simp only [cc0_maddness_eq_skeleton]; unfold cc0_maddness_skel
    simp only [k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; isplitr; · ipureintro; exact harg8.read_unread _
    iexact HS0

end Cert.KernelIdeal.Hand

end
-- ==== Proof.KFrame.lean ====
/-
  The frame of the ideal kernel, with every buffer's contents named: what the first grid point leaves in the one-hot scratch and in
  the codes block stays there, and the `y` block is written whole at every point.
-/
module

public import proofs.«01_k».proof.Proof.KRunB
public import Idealize.ShloMosaic.Lib.Claim
public import Idealize.ShloMosaic.Lib.Pipeline.TableIdle

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's pieces for output 5 tile its block (1 store of `S256x512`), so they cover it. -/
theorem cover0_A_5 (c : Dev nD) (i : grid0.Coords) (arg1 : Memref sig .tc .vmem S256x7168 .bf16) (harg1 : arg1.IsWhole) (arg2 : Memref sig .tc .vmem S224x4 .i32) (harg2 : arg2.IsWhole) (arg3 : Memref sig .tc .vmem S224x15 .bf16) (harg3 : arg3.IsWhole) (arg4 : Memref sig .tc .vmem S224x16x512 .i8) (harg4 : arg4.IsWhole) (arg5 : Memref sig .tc .smem S224 .f32) (harg5 : arg5.IsWhole) (arg6 : Memref sig .tc .vmem S256x512 .bf16) (harg6 : arg6.IsWhole) (arg7 : Memref sig .tc .vmem S256x224 .i8) (harg7 : arg7.IsWhole) (arg8 : Memref sig .tc .vmem S256x3584 .bf16) (harg8 : arg8.IsWhole) (hc0 : cond0_0 i)
    (x0 : Vec F S256x7168 .bf16) (x1 : Vec F S224x4 .i32) (x2 : Vec F S224x15 .bf16) (x3 : Vec F S224x16x512 .i8) (x4 : Vec F S224 .f32) (y : S256x512.Idx) :
    ∃ pc ∈ (kernelRun0_A c i arg1 harg1 arg2 harg2 arg3 harg3 arg4 harg4 arg5 harg5 arg6 harg6 arg7 harg7 arg8 harg8 hc0 x0 x1 x2 x3 x4).1, y ∈ pc.1.set :=
  View.cover_of_tiledL (kernelRun0_A c i arg1 harg1 arg2 harg2 arg3 harg3 arg4 harg4 arg5 harg5 arg6 harg6 arg7 harg7 arg8 harg8 hc0 x0 x1 x2 x3 x4).1 S256x512.size (by sl_kernel_rfl) y

/-- What case A leaves in output 5's staging buffer: its pieces read back over junk. -/
def out0_A_5 (c : Dev nD) (i : grid0.Coords) (arg1 : Memref sig .tc .vmem S256x7168 .bf16) (harg1 : arg1.IsWhole) (arg2 : Memref sig .tc .vmem S224x4 .i32) (harg2 : arg2.IsWhole) (arg3 : Memref sig .tc .vmem S224x15 .bf16) (harg3 : arg3.IsWhole) (arg4 : Memref sig .tc .vmem S224x16x512 .i8) (harg4 : arg4.IsWhole) (arg5 : Memref sig .tc .smem S224 .f32) (harg5 : arg5.IsWhole) (arg6 : Memref sig .tc .vmem S256x512 .bf16) (harg6 : arg6.IsWhole) (arg7 : Memref sig .tc .vmem S256x224 .i8) (harg7 : arg7.IsWhole) (arg8 : Memref sig .tc .vmem S256x3584 .bf16) (harg8 : arg8.IsWhole) (hc0 : cond0_0 i)
    (x0 : Vec F S256x7168 .bf16) (x1 : Vec F S224x4 .i32) (x2 : Vec F S224x15 .bf16) (x3 : Vec F S224x16x512 .i8) (x4 : Vec F S224 .f32) : Vec F S256x512 .bf16 :=
  VO0_5.read (Elt F) (VO0_5.writes (Elt F) VO0_5.junk (kernelRun0_A c i arg1 harg1 arg2 harg2 arg3 harg3 arg4 harg4 arg5 harg5 arg6 harg6 arg7 harg7 arg8 harg8 hc0 x0 x1 x2 x3 x4).1)

/-- Case A's pieces for output 6 (7 stores of `S256x32`): in blocks of `![256, 32]` they tile its block (checked by the kernel's evaluation: Lib/Ring.lean `Piece.tiledBy`), so they cover it. -/
theorem cover0_A_6 (c : Dev nD) (i : grid0.Coords) (arg1 : Memref sig .tc .vmem S256x7168 .bf16) (harg1 : arg1.IsWhole) (arg2 : Memref sig .tc .vmem S224x4 .i32) (harg2 : arg2.IsWhole) (arg3 : Memref sig .tc .vmem S224x15 .bf16) (harg3 : arg3.IsWhole) (arg4 : Memref sig .tc .vmem S224x16x512 .i8) (harg4 : arg4.IsWhole) (arg5 : Memref sig .tc .smem S224 .f32) (harg5 : arg5.IsWhole) (arg6 : Memref sig .tc .vmem S256x512 .bf16) (harg6 : arg6.IsWhole) (arg7 : Memref sig .tc .vmem S256x224 .i8) (harg7 : arg7.IsWhole) (arg8 : Memref sig .tc .vmem S256x3584 .bf16) (harg8 : arg8.IsWhole) (hc0 : cond0_0 i)
    (x0 : Vec F S256x7168 .bf16) (x1 : Vec F S224x4 .i32) (x2 : Vec F S224x15 .bf16) (x3 : Vec F S224x16x512 .i8) (x4 : Vec F S224 .f32) (y : S256x224.Idx) :
    ∃ pc ∈ (kernelRun0_A c i arg1 harg1 arg2 harg2 arg3 harg3 arg4 harg4 arg5 harg5 arg6 harg6 arg7 harg7 arg8 harg8 hc0 x0 x1 x2 x3 x4).2.1, y ∈ pc.1.set :=
  View.cover_of_tiledBy (kernelRun0_A c i arg1 harg1 arg2 harg2 arg3 harg3 arg4 harg4 arg5 harg5 arg6 harg6 arg7 harg7 arg8 harg8 hc0 x0 x1 x2 x3 x4).2.1 ![256, 32] (by sl_kernel_rfl) y

/-- What case A leaves in output 6's staging buffer: its pieces read back over junk. -/
def out0_A_6 (c : Dev nD) (i : grid0.Coords) (arg1 : Memref sig .tc .vmem S256x7168 .bf16) (harg1 : arg1.IsWhole) (arg2 : Memref sig .tc .vmem S224x4 .i32) (harg2 : arg2.IsWhole) (arg3 : Memref sig .tc .vmem S224x15 .bf16) (harg3 : arg3.IsWhole) (arg4 : Memref sig .tc .vmem S224x16x512 .i8) (harg4 : arg4.IsWhole) (arg5 : Memref sig .tc .smem S224 .f32) (harg5 : arg5.IsWhole) (arg6 : Memref sig .tc .vmem S256x512 .bf16) (harg6 : arg6.IsWhole) (arg7 : Memref sig .tc .vmem S256x224 .i8) (harg7 : arg7.IsWhole) (arg8 : Memref sig .tc .vmem S256x3584 .bf16) (harg8 : arg8.IsWhole) (hc0 : cond0_0 i)
    (x0 : Vec F S256x7168 .bf16) (x1 : Vec F S224x4 .i32) (x2 : Vec F S224x15 .bf16) (x3 : Vec F S224x16x512 .i8) (x4 : Vec F S224 .f32) : Vec F S256x224 .i8 :=
  VO0_6.read (Elt F) (VO0_6.writes (Elt F) VO0_6.junk (kernelRun0_A c i arg1 harg1 arg2 harg2 arg3 harg3 arg4 harg4 arg5 harg5 arg6 harg6 arg7 harg7 arg8 harg8 hc0 x0 x1 x2 x3 x4).2.1)

/-- Case A's pieces for scratch `arg8`, which the kernel carries between points, cover it: 28 pieces of `S256x128` tiling it (Lib/Ring.lean `Piece.tiledL`). -/
theorem scover0_A_0 (c : Dev nD) (i : grid0.Coords) (arg1 : Memref sig .tc .vmem S256x7168 .bf16) (harg1 : arg1.IsWhole) (arg2 : Memref sig .tc .vmem S224x4 .i32) (harg2 : arg2.IsWhole) (arg3 : Memref sig .tc .vmem S224x15 .bf16) (harg3 : arg3.IsWhole) (arg4 : Memref sig .tc .vmem S224x16x512 .i8) (harg4 : arg4.IsWhole) (arg5 : Memref sig .tc .smem S224 .f32) (harg5 : arg5.IsWhole) (arg6 : Memref sig .tc .vmem S256x512 .bf16) (harg6 : arg6.IsWhole) (arg7 : Memref sig .tc .vmem S256x224 .i8) (harg7 : arg7.IsWhole) (arg8 : Memref sig .tc .vmem S256x3584 .bf16) (harg8 : arg8.IsWhole) (hc0 : cond0_0 i)
    (x0 : Vec F S256x7168 .bf16) (x1 : Vec F S224x4 .i32) (x2 : Vec F S224x15 .bf16) (x3 : Vec F S224x16x512 .i8) (x4 : Vec F S224 .f32) (y : S256x3584.Idx) :
    ∃ pc ∈ (kernelRun0_A c i arg1 harg1 arg2 harg2 arg3 harg3 arg4 harg4 arg5 harg5 arg6 harg6 arg7 harg7 arg8 harg8 hc0 x0 x1 x2 x3 x4).2.2.1, y ∈ pc.1.set :=
  View.cover_of_tiledL (kernelRun0_A c i arg1 harg1 arg2 harg2 arg3 harg3 arg4 harg4 arg5 harg5 arg6 harg6 arg7 harg7 arg8 harg8 hc0 x0 x1 x2 x3 x4).2.2.1 S256x128.size (by sl_kernel_rfl) y

/-- What case A leaves in scratch `arg8`: its pieces read back over junk. -/
def sout0_A_0 (c : Dev nD) (i : grid0.Coords) (arg1 : Memref sig .tc .vmem S256x7168 .bf16) (harg1 : arg1.IsWhole) (arg2 : Memref sig .tc .vmem S224x4 .i32) (harg2 : arg2.IsWhole) (arg3 : Memref sig .tc .vmem S224x15 .bf16) (harg3 : arg3.IsWhole) (arg4 : Memref sig .tc .vmem S224x16x512 .i8) (harg4 : arg4.IsWhole) (arg5 : Memref sig .tc .smem S224 .f32) (harg5 : arg5.IsWhole) (arg6 : Memref sig .tc .vmem S256x512 .bf16) (harg6 : arg6.IsWhole) (arg7 : Memref sig .tc .vmem S256x224 .i8) (harg7 : arg7.IsWhole) (arg8 : Memref sig .tc .vmem S256x3584 .bf16) (harg8 : arg8.IsWhole) (hc0 : cond0_0 i)
    (x0 : Vec F S256x7168 .bf16) (x1 : Vec F S224x4 .i32) (x2 : Vec F S224x15 .bf16) (x3 : Vec F S224x16x512 .i8) (x4 : Vec F S224 .f32) : Vec F S256x3584 .bf16 :=
  VS0_0.read (Elt F) (VS0_0.writes (Elt F) VS0_0.junk (kernelRun0_A c i arg1 harg1 arg2 harg2 arg3 harg3 arg4 harg4 arg5 harg5 arg6 harg6 arg7 harg7 arg8 harg8 hc0 x0 x1 x2 x3 x4).2.2.1)

/-- Case B's pieces for output 5 tile its block (1 store of `S256x512`), so they cover it. -/
theorem cover0_B_5 (c : Dev nD) (i : grid0.Coords) (arg1 : Memref sig .tc .vmem S256x7168 .bf16) (harg1 : arg1.IsWhole) (arg2 : Memref sig .tc .vmem S224x4 .i32) (harg2 : arg2.IsWhole) (arg3 : Memref sig .tc .vmem S224x15 .bf16) (harg3 : arg3.IsWhole) (arg4 : Memref sig .tc .vmem S224x16x512 .i8) (harg4 : arg4.IsWhole) (arg5 : Memref sig .tc .smem S224 .f32) (harg5 : arg5.IsWhole) (arg6 : Memref sig .tc .vmem S256x512 .bf16) (harg6 : arg6.IsWhole) (arg7 : Memref sig .tc .vmem S256x224 .i8) (harg7 : arg7.IsWhole) (arg8 : Memref sig .tc .vmem S256x3584 .bf16) (harg8 : arg8.IsWhole) (hc0 : ¬cond0_0 i)
    (x0 : Vec F S256x7168 .bf16) (x1 : Vec F S224x4 .i32) (x2 : Vec F S224x15 .bf16) (x3 : Vec F S224x16x512 .i8) (x4 : Vec F S224 .f32) (xs0 : Vec F S256x3584 .bf16) (y : S256x512.Idx) :
    ∃ pc ∈ (kernelRun0_B c i arg1 harg1 arg2 harg2 arg3 harg3 arg4 harg4 arg5 harg5 arg6 harg6 arg7 harg7 arg8 harg8 hc0 x0 x1 x2 x3 x4 xs0).1, y ∈ pc.1.set :=
  View.cover_of_tiledL (kernelRun0_B c i arg1 harg1 arg2 harg2 arg3 harg3 arg4 harg4 arg5 harg5 arg6 harg6 arg7 harg7 arg8 harg8 hc0 x0 x1 x2 x3 x4 xs0).1 S256x512.size (by sl_kernel_rfl) y

/-- What case B leaves in output 5's staging buffer: its pieces read back over junk. -/
def out0_B_5 (c : Dev nD) (i : grid0.Coords) (arg1 : Memref sig .tc .vmem S256x7168 .bf16) (harg1 : arg1.IsWhole) (arg2 : Memref sig .tc .vmem S224x4 .i32) (harg2 : arg2.IsWhole) (arg3 : Memref sig .tc .vmem S224x15 .bf16) (harg3 : arg3.IsWhole) (arg4 : Memref sig .tc .vmem S224x16x512 .i8) (harg4 : arg4.IsWhole) (arg5 : Memref sig .tc .smem S224 .f32) (harg5 : arg5.IsWhole) (arg6 : Memref sig .tc .vmem S256x512 .bf16) (harg6 : arg6.IsWhole) (arg7 : Memref sig .tc .vmem S256x224 .i8) (harg7 : arg7.IsWhole) (arg8 : Memref sig .tc .vmem S256x3584 .bf16) (harg8 : arg8.IsWhole) (hc0 : ¬cond0_0 i)
    (x0 : Vec F S256x7168 .bf16) (x1 : Vec F S224x4 .i32) (x2 : Vec F S224x15 .bf16) (x3 : Vec F S224x16x512 .i8) (x4 : Vec F S224 .f32) (xs0 : Vec F S256x3584 .bf16) : Vec F S256x512 .bf16 :=
  VO0_5.read (Elt F) (VO0_5.writes (Elt F) VO0_5.junk (kernelRun0_B c i arg1 harg1 arg2 harg2 arg3 harg3 arg4 harg4 arg5 harg5 arg6 harg6 arg7 harg7 arg8 harg8 hc0 x0 x1 x2 x3 x4 xs0).1)

/-! ## What the outputs hold after each point -/

/-- The first grid point. -/
def t0 : Fin cfg0.N := ⟨0, by rw [show cfg0.N = 36 from N_0]; omega⟩
theorem ht0 : t0.val % 36 = 0 := rfl

/-- The one-hot scratch after the first point; no later point stores into it. -/
def ohOf (c : Dev nD) : Vec F S256x3584 .bf16 :=
  sout0_A_0 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) scM0_0 (Memref.isWhole_whole _) ((hcond0_0 t0).mpr ht0) (iblk m c 0 t0) (iblk m c 1 t0) (iblk m c 2 t0) (iblk m c 3 t0) (iblk m c 4 t0)
/-- The codes block after the first point; no later point stores into it. -/
def codesOf (c : Dev nD) : Vec F S256x224 .i8 :=
  out0_A_6 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) scM0_0 (Memref.isWhole_whole _) ((hcond0_0 t0).mpr ht0) (iblk m c 0 t0) (iblk m c 1 t0) (iblk m c 2 t0) (iblk m c 3 t0) (iblk m c 4 t0)
/-- The `y` block after point `t`. -/
def yOf (c : Dev nD) (t : Fin cfg0.N) : Vec F S256x512 .bf16 :=
  if h0 : t.val % 36 = 0 then
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t)
  else
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (ohOf m c)

theorem yOf_A (c : Dev nD) (t : Fin cfg0.N) (h0 : t.val % 36 = 0) :
    yOf m c t = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) := dif_pos h0
theorem yOf_B (c : Dev nD) (t : Fin cfg0.N) (h0 : ¬t.val % 36 = 0) :
    yOf m c t = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (ohOf m c) := dif_neg h0

/-- The region invariant before position `n`: before the first point every scratch at anything; afterwards the one-hot scratch
    at what the first point left, and the generator register at some state. -/
def PhiS (c : Dev nD) : ℕ → sProp 𝕄
  | 0 => Pipeline.ΦA spec0 c
  | _ + 1 => iprop(iprop(owns (c : Thread nD τ) scM0_0 fullShare (ohOf m c)) ∗ (∃ r, prngReg c r))

theorem PhiS_zero (c : Dev nD) (n : ℕ) (hz : n = 0) : PhiS m c n = Pipeline.ΦA spec0 c := by
  subst hz; rfl
theorem PhiS_succ (c : Dev nD) (n : ℕ) :
    PhiS m c (n + 1) = iprop(iprop(owns (c : Thread nD τ) scM0_0 fullShare (ohOf m c)) ∗ (∃ r, prngReg c r)) := rfl
theorem PhiS_pos (c : Dev nD) (n : ℕ) (hz : n ≠ 0) :
    PhiS m c n = iprop(iprop(owns (c : Thread nD τ) scM0_0 fullShare (ohOf m c)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `yOf` and `codesOf`; the invariant `PhiS`;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yOf m c t
    | ⟨6, _⟩ => codesOf m c
  Φ t := PhiS m c t.val
  q _ := fullShare
  owed _ := 0

/-- The proof data's arrays are the region-entry contents: the proof data's definition projected ). -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val := by
  dsimp only [dats]; rfl

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = yOf m c t := by dsimp only [dats]
theorem after0_6 (c : Dev nD) (t : Fin cfg0.N) : (dats m 0 c).after 6 t = codesOf m c := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- The codes block is stored at the first point only: window 6 is live there, -/
theorem idle0_6_iff (t : Fin cfg0.N) : cfg0.idle 6 (cfg0.grid.coords t) = false ↔ t.val % 36 = 0 := by
  rw [← hcond0_0 t]
  show (!(k0_cond1 (grid0.coords t) == 1#1)) = false ↔ cond0_0 (grid0.coords t)
  rw [Bool.not_eq_false', beq_iff_eq]
  exact Iff.rfl

/-- and its buffer holds what that point left from then on. -/
theorem fresh0_6 : ∀ n, 0 < n → n < 36 → cfg0.fresh 6 n = false
  | 0, h, _ => absurd h (by omega)
  | n + 1, _, h => by
    have hN : n < cfg0.N := lt_of_lt_of_eq (by omega) (show (36 : ℕ) = cfg0.N from N_0.symm)
    rw [Pipeline.Cfg.fresh_succ _ _ n hN]
    have hf : (cfg0.win 6).flush ⟨n, hN⟩ = false :=
      Bool.eq_false_iff.mpr fun h => by have := (flush0_6 _).mp h; dsimp only at this; omega
    rw [hf, Bool.false_or]
    by_cases h0 : n = 0
    · rw [(idle0_6_iff ⟨n, hN⟩).mpr (by simp [h0]), Bool.false_and]
    · rw [fresh0_6 n (by omega) (by omega), Bool.and_false]

/-- At a point of case B output 6's current staging buffer holds what the body left at the first point. -/
theorem before0_6_B (c : Dev nD) (t : Fin cfg0.N) (h0 : ¬t.val % 36 = 0) (d) :
    (dats m 0 c).before 6 t d = codesOf m c := by
  have hN : t.val < 36 := lt_of_lt_of_eq t.isLt (show cfg0.N = 36 from N_0)
  rw [(dats m 0 c).before_out_traj 6 rfl (fun _ _ => rfl) (fun _ _ _ _ => by dsimp only [dats]) t.val t rfl d,
    fresh0_6 t.val (by omega) hN, if_neg Bool.false_ne_true]
  dsimp only [dats]

/-- The codes block as the body leaves it is what the obligation asks of window 6: at a later point the buffer is handed back as it
    was found. -/
theorem leaves0_6 (c : Dev nD) (t : Fin cfg0.N) :
    owns (c : Thread nD τ) (ms0_6 t) fullShare (codesOf m c) ⊢ ((dats m 0 c).leavesExact 6 t : sProp 𝕄) := by
  by_cases h0 : t.val % 36 = 0
  · unfold Dat.leavesExact
    rw [(idle0_6_iff t).mpr h0]
    exact .rfl
  · have hi : cfg0.idle 6 (cfg0.grid.coords t) = true := by
      rw [← Bool.not_eq_false]; exact fun h => h0 ((idle0_6_iff t).mp h)
    cases hf : (cfg0.win 6).flush t
    · rw [Dat.leavesExact_idle _ _ _ hi hf]
      iintro H
      iexists codesOf m c
      rw [before0_6_B m c t h0]
      iexact H
    · unfold Dat.leavesExact
      rw [hi, hf]
      exact .rfl

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (dats m 0 c).leavesExact 6 t)

set_option maxHeartbeats 6400000 in
/-- The body at any point: at the first the run of case A, later the run of case B. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = PhiS m c (t.val + 1) from rfl, PhiS_succ]
  have hN : t.val < 36 := lt_of_lt_of_eq t.isLt (show cfg0.N = 36 from N_0)
  by_cases h0 : t.val % 36 = 0
  · by_cases hz : t.val = 0
    · rw [PhiS_castSucc m c t, PhiS_zero m c _ hz, PhiA0_eq]
      obtain rfl : t = t0 := Fin.ext hz
      rw [yOf_A m c t0 h0]
      unfold ohOf out0_A_5 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t0) _ _ _ _ _ _ _ _ _ _ _ _ _ _ _ _ ((hcond0_0 t0).mpr h0) (iblk m c 0 t0) (iblk m c 1 t0) (iblk m c 2 t0) (iblk m c 3 t0) (iblk m c 4 t0)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, ⟨%e5, H5⟩, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _)
      iapply (leaves0_6 m c t0)
      unfold codesOf out0_A_6 owns; iexists _; isplitr
      swap; · iexact H6
      ipureintro; exact View.read_writes_of_cover _ _ _ _ _ (cover0_A_6 c _ _ _ _ _ _ _ _ _ _ _ _ _ _ _ _ _ _ _ _ _ _ _)
    · exfalso; have hN : t.val < 36 := lt_of_lt_of_eq t.isLt (show cfg0.N = 36 from N_0); omega
  · by_cases hz : t.val = 0
    · exfalso; have hN : t.val < 36 := lt_of_lt_of_eq t.isLt (show cfg0.N = 36 from N_0); omega
    · rw [PhiS_castSucc m c t, PhiS_pos m c _ hz]
      rw [yOf_B m c t h0]
      simp only [before0_6_B m c t h0]
      unfold out0_B_5; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (iblk m c 0 t) (iblk m c 1 t) (iblk m c 2 t) (iblk m c 3 t) (iblk m c 4 t) (ohOf m c)).2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _)
      iapply (leaves0_6 m c t)
      iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val from rfl, PhiS_pos m c _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 36 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Hand

end
-- ==== Proof.PRuns.lean ====
/-
  What the two runs of the kernel's body share: the branch condition in closed form over the grid points, the staging
  memrefs at a point, and the region's invariant with the scratch owned at some contents.
-/
module

public import proofs.«01_k».proof.Proof.Gen.Kernel.Frame
public import proofs.«01_k».proof.Proof.Gen.Kernel.Skeleton

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 36 = 0 :=
  (fun t => by
    have ht : t.val < 36 := Nat.lt_of_lt_of_eq t.isLt N_0
    have e0 : (grid0.coords t 0).val = t.val / 1 % 36 := Pipeline.Grid.coords_val t 0 (by decide) rfl
    simp only [cond0_0, e0]
    word_cmp
   : ∀ t : Fin grid0.N, cond0_0 (grid0.coords t) ↔ t.val % 36 = 0)

/-! ## The kernel body on any staging memrefs: a subtype the run finds -/

/-- One staging buffer of output window 5, through which its contents are stated (`View.read_writes_of_cover`: the
    choice does not matter). -/
abbrev VO0_5 : View sig .tc .vmem S256x512 .bf16 := (Memref.whole cc0_stg5_0 : Memref sig .tc .vmem S256x512 .bf16).view
/-- One staging buffer of output window 6, through which its contents are stated (`View.read_writes_of_cover`: the
    choice does not matter). -/
abbrev VO0_6 : View sig .tc .vmem S256x224 .i8 := (Memref.whole cc0_stg6_0 : Memref sig .tc .vmem S256x224 .i8).view
/-- Each window's current staging memref at point `t`, spelled as the pipeline passes it (`bodyAt0`), and its wholeness. -/
abbrev ms0_0 (t : Fin cfg0.N) : Memref sig .tc .vmem S256x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S224x4 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S224x15 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S224x16x512 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S224 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x224 .i8 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S256x3584 .bf16 := Memref.whole cc0_scratch0
/-- The scratch `arg8` the kernel carries between points, as a view: what it holds is stated through it. -/
abbrev VS0_0 : View sig .tc .vmem S256x3584 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.PRunA.lean ====
/-
  The run of the kernel's body at grid point 0, by symbolic execution of its skeleton.
-/
module

public import proofs.«01_k».proof.Proof.PRuns

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- (the run's proof term is large: the definition's epilogue — `abstractNestedProofs` — walks it past the default budget)
set_option maxHeartbeats 2584000 in
/-- The body at grid point 0, where the branch is taken: the pieces its stores leave in the `y` block (`L5`), in the codes
    block (`L6`) and in the one-hot scratch (`LS0`), last first, with the proof that on whole memrefs the body runs to the
    continuation holding the inputs as they were and those three buffers with their pieces written. -/
noncomputable def kernelRun0_A (c : Dev nD) (i : grid0.Coords) (arg1 : Memref sig .tc .vmem S256x7168 .bf16) (harg1 : arg1.IsWhole) (arg2 : Memref sig .tc .vmem S224x4 .i32) (harg2 : arg2.IsWhole) (arg3 : Memref sig .tc .vmem S224x15 .bf16) (harg3 : arg3.IsWhole) (arg4 : Memref sig .tc .vmem S224x16x512 .i8) (harg4 : arg4.IsWhole) (arg5 : Memref sig .tc .smem S224 .f32) (harg5 : arg5.IsWhole) (arg6 : Memref sig .tc .vmem S256x512 .bf16) (harg6 : arg6.IsWhole) (arg7 : Memref sig .tc .vmem S256x224 .i8) (harg7 : arg7.IsWhole) (arg8 : Memref sig .tc .vmem S256x3584 .bf16) (harg8 : arg8.IsWhole) (hc0 : cond0_0 i)
    (x0 : Vec F S256x7168 .bf16) (x1 : Vec F S224x4 .i32) (x2 : Vec F S224x15 .bf16) (x3 : Vec F S224x16x512 .i8) (x4 : Vec F S224 .f32) :
    Σ' (L5 : List (View.Piece (Elt F) S256x512 .bf16)), Σ' (L6 : List (View.Piece (Elt F) S256x224 .i8)), { LS0 : List (View.Piece (Elt F) S256x3584 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc0_maddness i arg1 harg1 arg2 harg2 arg3 harg3 arg4 harg4 arg5 harg5 arg6 harg6 arg7 harg7 arg8 harg8) K } := by
  refine ⟨?_, ?_, ?_, fun E K => ?run⟩
  case run =>
    simp only [cc0_maddness_eq_skeleton]; unfold cc0_maddness_skel
    simp only [k0_part79_eq_skeleton, k0_part78_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact HS0

end Cert.Kernel.Hand

end
-- ==== Proof.PRunB.lean ====
/-
  The run of the kernel's body at the later grid points, by symbolic execution of its skeleton.
-/
module

public import proofs.«01_k».proof.Proof.PRunA

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- (the run's proof term is large: the definition's epilogue — `abstractNestedProofs` — walks it past the default budget)
set_option maxHeartbeats 1188000 in
/-- The body at a later grid point, where the branch is not taken: the pieces its stores leave in the `y` block, with the
    proof that on whole memrefs the body runs to the continuation holding the inputs and the one-hot scratch as they were. The codes
    block is not touched. -/
noncomputable def kernelRun0_B (c : Dev nD) (i : grid0.Coords) (arg1 : Memref sig .tc .vmem S256x7168 .bf16) (harg1 : arg1.IsWhole) (arg2 : Memref sig .tc .vmem S224x4 .i32) (harg2 : arg2.IsWhole) (arg3 : Memref sig .tc .vmem S224x15 .bf16) (harg3 : arg3.IsWhole) (arg4 : Memref sig .tc .vmem S224x16x512 .i8) (harg4 : arg4.IsWhole) (arg5 : Memref sig .tc .smem S224 .f32) (harg5 : arg5.IsWhole) (arg6 : Memref sig .tc .vmem S256x512 .bf16) (harg6 : arg6.IsWhole) (arg7 : Memref sig .tc .vmem S256x224 .i8) (harg7 : arg7.IsWhole) (arg8 : Memref sig .tc .vmem S256x3584 .bf16) (harg8 : arg8.IsWhole) (hc0 : ¬cond0_0 i)
    (x0 : Vec F S256x7168 .bf16) (x1 : Vec F S224x4 .i32) (x2 : Vec F S224x15 .bf16) (x3 : Vec F S224x16x512 .i8) (x4 : Vec F S224 .f32) (xs0 : Vec F S256x3584 .bf16) :
    { L5 : List (View.Piece (Elt F) S256x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg8 fullShare xs0) -∗ K ⟨⟩))
          ⊢ wp frame (wpE (defs₀ (F := F)) Variants.none c none) E (cc0_maddness i arg1 harg1 arg2 harg2 arg3 harg3 arg4 harg4 arg5 harg5 arg6 harg6 arg7 harg7 arg8 harg8) K } := by
  refine ⟨?_, fun E K => ?run⟩
  case run =>
    simp only [cc0_maddness_eq_skeleton]; unfold cc0_maddness_skel
    simp only [k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; isplitr; · ipureintro; exact harg8.read_unread _
    iexact HS0

end Cert.Kernel.Hand

end
-- ==== Proof.PFrame.lean ====
/-
  The frame of the kernel, with every buffer's contents named: what the first grid point leaves in the one-hot scratch and in
  the codes block stays there, and the `y` block is written whole at every point.
-/
module

public import proofs.«01_k».proof.Proof.PRunB
public import Idealize.ShloMosaic.Lib.Claim
public import Idealize.ShloMosaic.Lib.Pipeline.TableIdle

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- Case A's pieces for output 5 tile its block (1 store of `S256x512`), so they cover it. -/
theorem cover0_A_5 (c : Dev nD) (i : grid0.Coords) (arg1 : Memref sig .tc .vmem S256x7168 .bf16) (harg1 : arg1.IsWhole) (arg2 : Memref sig .tc .vmem S224x4 .i32) (harg2 : arg2.IsWhole) (arg3 : Memref sig .tc .vmem S224x15 .bf16) (harg3 : arg3.IsWhole) (arg4 : Memref sig .tc .vmem S224x16x512 .i8) (harg4 : arg4.IsWhole) (arg5 : Memref sig .tc .smem S224 .f32) (harg5 : arg5.IsWhole) (arg6 : Memref sig .tc .vmem S256x512 .bf16) (harg6 : arg6.IsWhole) (arg7 : Memref sig .tc .vmem S256x224 .i8) (harg7 : arg7.IsWhole) (arg8 : Memref sig .tc .vmem S256x3584 .bf16) (harg8 : arg8.IsWhole) (hc0 : cond0_0 i)
    (x0 : Vec F S256x7168 .bf16) (x1 : Vec F S224x4 .i32) (x2 : Vec F S224x15 .bf16) (x3 : Vec F S224x16x512 .i8) (x4 : Vec F S224 .f32) (y : S256x512.Idx) :
    ∃ pc ∈ (kernelRun0_A c i arg1 harg1 arg2 harg2 arg3 harg3 arg4 harg4 arg5 harg5 arg6 harg6 arg7 harg7 arg8 harg8 hc0 x0 x1 x2 x3 x4).1, y ∈ pc.1.set :=
  View.cover_of_tiledL (kernelRun0_A c i arg1 harg1 arg2 harg2 arg3 harg3 arg4 harg4 arg5 harg5 arg6 harg6 arg7 harg7 arg8 harg8 hc0 x0 x1 x2 x3 x4).1 S256x512.size (by sl_kernel_rfl) y

/-- What case A leaves in output 5's staging buffer: its pieces read back over junk. -/
def out0_A_5 (c : Dev nD) (i : grid0.Coords) (arg1 : Memref sig .tc .vmem S256x7168 .bf16) (harg1 : arg1.IsWhole) (arg2 : Memref sig .tc .vmem S224x4 .i32) (harg2 : arg2.IsWhole) (arg3 : Memref sig .tc .vmem S224x15 .bf16) (harg3 : arg3.IsWhole) (arg4 : Memref sig .tc .vmem S224x16x512 .i8) (harg4 : arg4.IsWhole) (arg5 : Memref sig .tc .smem S224 .f32) (harg5 : arg5.IsWhole) (arg6 : Memref sig .tc .vmem S256x512 .bf16) (harg6 : arg6.IsWhole) (arg7 : Memref sig .tc .vmem S256x224 .i8) (harg7 : arg7.IsWhole) (arg8 : Memref sig .tc .vmem S256x3584 .bf16) (harg8 : arg8.IsWhole) (hc0 : cond0_0 i)
    (x0 : Vec F S256x7168 .bf16) (x1 : Vec F S224x4 .i32) (x2 : Vec F S224x15 .bf16) (x3 : Vec F S224x16x512 .i8) (x4 : Vec F S224 .f32) : Vec F S256x512 .bf16 :=
  VO0_5.read (Elt F) (VO0_5.writes (Elt F) VO0_5.junk (kernelRun0_A c i arg1 harg1 arg2 harg2 arg3 harg3 arg4 harg4 arg5 harg5 arg6 harg6 arg7 harg7 arg8 harg8 hc0 x0 x1 x2 x3 x4).1)

/-- Case A's pieces for output 6 (7 stores of `S256x32`): in blocks of `![256, 32]` they tile its block (checked by the kernel's evaluation: Lib/Ring.lean `Piece.tiledBy`), so they cover it. -/
theorem cover0_A_6 (c : Dev nD) (i : grid0.Coords) (arg1 : Memref sig .tc .vmem S256x7168 .bf16) (harg1 : arg1.IsWhole) (arg2 : Memref sig .tc .vmem S224x4 .i32) (harg2 : arg2.IsWhole) (arg3 : Memref sig .tc .vmem S224x15 .bf16) (harg3 : arg3.IsWhole) (arg4 : Memref sig .tc .vmem S224x16x512 .i8) (harg4 : arg4.IsWhole) (arg5 : Memref sig .tc .smem S224 .f32) (harg5 : arg5.IsWhole) (arg6 : Memref sig .tc .vmem S256x512 .bf16) (harg6 : arg6.IsWhole) (arg7 : Memref sig .tc .vmem S256x224 .i8) (harg7 : arg7.IsWhole) (arg8 : Memref sig .tc .vmem S256x3584 .bf16) (harg8 : arg8.IsWhole) (hc0 : cond0_0 i)
    (x0 : Vec F S256x7168 .bf16) (x1 : Vec F S224x4 .i32) (x2 : Vec F S224x15 .bf16) (x3 : Vec F S224x16x512 .i8) (x4 : Vec F S224 .f32) (y : S256x224.Idx) :
    ∃ pc ∈ (kernelRun0_A c i arg1 harg1 arg2 harg2 arg3 harg3 arg4 harg4 arg5 harg5 arg6 harg6 arg7 harg7 arg8 harg8 hc0 x0 x1 x2 x3 x4).2.1, y ∈ pc.1.set :=
  View.cover_of_tiledBy (kernelRun0_A c i arg1 harg1 arg2 harg2 arg3 harg3 arg4 harg4 arg5 harg5 arg6 harg6 arg7 harg7 arg8 harg8 hc0 x0 x1 x2 x3 x4).2.1 ![256, 32] (by sl_kernel_rfl) y

/-- What case A leaves in output 6's staging buffer: its pieces read back over junk. -/
def out0_A_6 (c : Dev nD) (i : grid0.Coords) (arg1 : Memref sig .tc .vmem S256x7168 .bf16) (harg1 : arg1.IsWhole) (arg2 : Memref sig .tc .vmem S224x4 .i32) (harg2 : arg2.IsWhole) (arg3 : Memref sig .tc .vmem S224x15 .bf16) (harg3 : arg3.IsWhole) (arg4 : Memref sig .tc .vmem S224x16x512 .i8) (harg4 : arg4.IsWhole) (arg5 : Memref sig .tc .smem S224 .f32) (harg5 : arg5.IsWhole) (arg6 : Memref sig .tc .vmem S256x512 .bf16) (harg6 : arg6.IsWhole) (arg7 : Memref sig .tc .vmem S256x224 .i8) (harg7 : arg7.IsWhole) (arg8 : Memref sig .tc .vmem S256x3584 .bf16) (harg8 : arg8.IsWhole) (hc0 : cond0_0 i)
    (x0 : Vec F S256x7168 .bf16) (x1 : Vec F S224x4 .i32) (x2 : Vec F S224x15 .bf16) (x3 : Vec F S224x16x512 .i8) (x4 : Vec F S224 .f32) : Vec F S256x224 .i8 :=
  VO0_6.read (Elt F) (VO0_6.writes (Elt F) VO0_6.junk (kernelRun0_A c i arg1 harg1 arg2 harg2 arg3 harg3 arg4 harg4 arg5 harg5 arg6 harg6 arg7 harg7 arg8 harg8 hc0 x0 x1 x2 x3 x4).2.1)

/-- Case A's pieces for scratch `arg8`, which the kernel carries between points, cover it: 28 pieces of `S256x128` tiling it (Lib/Ring.lean `Piece.tiledL`). -/
theorem scover0_A_0 (c : Dev nD) (i : grid0.Coords) (arg1 : Memref sig .tc .vmem S256x7168 .bf16) (harg1 : arg1.IsWhole) (arg2 : Memref sig .tc .vmem S224x4 .i32) (harg2 : arg2.IsWhole) (arg3 : Memref sig .tc .vmem S224x15 .bf16) (harg3 : arg3.IsWhole) (arg4 : Memref sig .tc .vmem S224x16x512 .i8) (harg4 : arg4.IsWhole) (arg5 : Memref sig .tc .smem S224 .f32) (harg5 : arg5.IsWhole) (arg6 : Memref sig .tc .vmem S256x512 .bf16) (harg6 : arg6.IsWhole) (arg7 : Memref sig .tc .vmem S256x224 .i8) (harg7 : arg7.IsWhole) (arg8 : Memref sig .tc .vmem S256x3584 .bf16) (harg8 : arg8.IsWhole) (hc0 : cond0_0 i)
    (x0 : Vec F S256x7168 .bf16) (x1 : Vec F S224x4 .i32) (x2 : Vec F S224x15 .bf16) (x3 : Vec F S224x16x512 .i8) (x4 : Vec F S224 .f32) (y : S256x3584.Idx) :
    ∃ pc ∈ (kernelRun0_A c i arg1 harg1 arg2 harg2 arg3 harg3 arg4 harg4 arg5 harg5 arg6 harg6 arg7 harg7 arg8 harg8 hc0 x0 x1 x2 x3 x4).2.2.1, y ∈ pc.1.set :=
  View.cover_of_tiledL (kernelRun0_A c i arg1 harg1 arg2 harg2 arg3 harg3 arg4 harg4 arg5 harg5 arg6 harg6 arg7 harg7 arg8 harg8 hc0 x0 x1 x2 x3 x4).2.2.1 S256x128.size (by sl_kernel_rfl) y

/-- What case A leaves in scratch `arg8`: its pieces read back over junk. -/
def sout0_A_0 (c : Dev nD) (i : grid0.Coords) (arg1 : Memref sig .tc .vmem S256x7168 .bf16) (harg1 : arg1.IsWhole) (arg2 : Memref sig .tc .vmem S224x4 .i32) (harg2 : arg2.IsWhole) (arg3 : Memref sig .tc .vmem S224x15 .bf16) (harg3 : arg3.IsWhole) (arg4 : Memref sig .tc .vmem S224x16x512 .i8) (harg4 : arg4.IsWhole) (arg5 : Memref sig .tc .smem S224 .f32) (harg5 : arg5.IsWhole) (arg6 : Memref sig .tc .vmem S256x512 .bf16) (harg6 : arg6.IsWhole) (arg7 : Memref sig .tc .vmem S256x224 .i8) (harg7 : arg7.IsWhole) (arg8 : Memref sig .tc .vmem S256x3584 .bf16) (harg8 : arg8.IsWhole) (hc0 : cond0_0 i)
    (x0 : Vec F S256x7168 .bf16) (x1 : Vec F S224x4 .i32) (x2 : Vec F S224x15 .bf16) (x3 : Vec F S224x16x512 .i8) (x4 : Vec F S224 .f32) : Vec F S256x3584 .bf16 :=
  VS0_0.read (Elt F) (VS0_0.writes (Elt F) VS0_0.junk (kernelRun0_A c i arg1 harg1 arg2 harg2 arg3 harg3 arg4 harg4 arg5 harg5 arg6 harg6 arg7 harg7 arg8 harg8 hc0 x0 x1 x2 x3 x4).2.2.1)

/-- Case B's pieces for output 5 tile its block (1 store of `S256x512`), so they cover it. -/
theorem cover0_B_5 (c : Dev nD) (i : grid0.Coords) (arg1 : Memref sig .tc .vmem S256x7168 .bf16) (harg1 : arg1.IsWhole) (arg2 : Memref sig .tc .vmem S224x4 .i32) (harg2 : arg2.IsWhole) (arg3 : Memref sig .tc .vmem S224x15 .bf16) (harg3 : arg3.IsWhole) (arg4 : Memref sig .tc .vmem S224x16x512 .i8) (harg4 : arg4.IsWhole) (arg5 : Memref sig .tc .smem S224 .f32) (harg5 : arg5.IsWhole) (arg6 : Memref sig .tc .vmem S256x512 .bf16) (harg6 : arg6.IsWhole) (arg7 : Memref sig .tc .vmem S256x224 .i8) (harg7 : arg7.IsWhole) (arg8 : Memref sig .tc .vmem S256x3584 .bf16) (harg8 : arg8.IsWhole) (hc0 : ¬cond0_0 i)
    (x0 : Vec F S256x7168 .bf16) (x1 : Vec F S224x4 .i32) (x2 : Vec F S224x15 .bf16) (x3 : Vec F S224x16x512 .i8) (x4 : Vec F S224 .f32) (xs0 : Vec F S256x3584 .bf16) (y : S256x512.Idx) :
    ∃ pc ∈ (kernelRun0_B c i arg1 harg1 arg2 harg2 arg3 harg3 arg4 harg4 arg5 harg5 arg6 harg6 arg7 harg7 arg8 harg8 hc0 x0 x1 x2 x3 x4 xs0).1, y ∈ pc.1.set :=
  View.cover_of_tiledL (kernelRun0_B c i arg1 harg1 arg2 harg2 arg3 harg3 arg4 harg4 arg5 harg5 arg6 harg6 arg7 harg7 arg8 harg8 hc0 x0 x1 x2 x3 x4 xs0).1 S256x512.size (by sl_kernel_rfl) y

/-- What case B leaves in output 5's staging buffer: its pieces read back over junk. -/
def out0_B_5 (c : Dev nD) (i : grid0.Coords) (arg1 : Memref sig .tc .vmem S256x7168 .bf16) (harg1 : arg1.IsWhole) (arg2 : Memref sig .tc .vmem S224x4 .i32) (harg2 : arg2.IsWhole) (arg3 : Memref sig .tc .vmem S224x15 .bf16) (harg3 : arg3.IsWhole) (arg4 : Memref sig .tc .vmem S224x16x512 .i8) (harg4 : arg4.IsWhole) (arg5 : Memref sig .tc .smem S224 .f32) (harg5 : arg5.IsWhole) (arg6 : Memref sig .tc .vmem S256x512 .bf16) (harg6 : arg6.IsWhole) (arg7 : Memref sig .tc .vmem S256x224 .i8) (harg7 : arg7.IsWhole) (arg8 : Memref sig .tc .vmem S256x3584 .bf16) (harg8 : arg8.IsWhole) (hc0 : ¬cond0_0 i)
    (x0 : Vec F S256x7168 .bf16) (x1 : Vec F S224x4 .i32) (x2 : Vec F S224x15 .bf16) (x3 : Vec F S224x16x512 .i8) (x4 : Vec F S224 .f32) (xs0 : Vec F S256x3584 .bf16) : Vec F S256x512 .bf16 :=
  VO0_5.read (Elt F) (VO0_5.writes (Elt F) VO0_5.junk (kernelRun0_B c i arg1 harg1 arg2 harg2 arg3 harg3 arg4 harg4 arg5 harg5 arg6 harg6 arg7 harg7 arg8 harg8 hc0 x0 x1 x2 x3 x4 xs0).1)

/-! ## What the outputs hold after each point -/

/-- The first grid point. -/
def t0 : Fin cfg0.N := ⟨0, by rw [show cfg0.N = 36 from N_0]; omega⟩
theorem ht0 : t0.val % 36 = 0 := rfl

/-- The one-hot scratch after the first point; no later point stores into it. -/
def ohOf (c : Dev nD) : Vec F S256x3584 .bf16 :=
  sout0_A_0 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) scM0_0 (Memref.isWhole_whole _) ((hcond0_0 t0).mpr ht0) (iblk m c 0 t0) (iblk m c 1 t0) (iblk m c 2 t0) (iblk m c 3 t0) (iblk m c 4 t0)
/-- The codes block after the first point; no later point stores into it. -/
def codesOf (c : Dev nD) : Vec F S256x224 .i8 :=
  out0_A_6 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) scM0_0 (Memref.isWhole_whole _) ((hcond0_0 t0).mpr ht0) (iblk m c 0 t0) (iblk m c 1 t0) (iblk m c 2 t0) (iblk m c 3 t0) (iblk m c 4 t0)
/-- The `y` block after point `t`. -/
def yOf (c : Dev nD) (t : Fin cfg0.N) : Vec F S256x512 .bf16 :=
  if h0 : t.val % 36 = 0 then
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t)
  else
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (ohOf m c)

theorem yOf_A (c : Dev nD) (t : Fin cfg0.N) (h0 : t.val % 36 = 0) :
    yOf m c t = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) := dif_pos h0
theorem yOf_B (c : Dev nD) (t : Fin cfg0.N) (h0 : ¬t.val % 36 = 0) :
    yOf m c t = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (ohOf m c) := dif_neg h0

/-- The region invariant before position `n`: before the first point every scratch at anything; afterwards the one-hot scratch
    at what the first point left, and the generator register at some state. -/
def PhiS (c : Dev nD) : ℕ → sProp 𝕄
  | 0 => Pipeline.ΦA spec0 c
  | _ + 1 => iprop(iprop(owns (c : Thread nD τ) scM0_0 fullShare (ohOf m c)) ∗ (∃ r, prngReg c r))

theorem PhiS_zero (c : Dev nD) (n : ℕ) (hz : n = 0) : PhiS m c n = Pipeline.ΦA spec0 c := by
  subst hz; rfl
theorem PhiS_succ (c : Dev nD) (n : ℕ) :
    PhiS m c (n + 1) = iprop(iprop(owns (c : Thread nD τ) scM0_0 fullShare (ohOf m c)) ∗ (∃ r, prngReg c r)) := rfl
theorem PhiS_pos (c : Dev nD) (n : ℕ) (hz : n ≠ 0) :
    PhiS m c n = iprop(iprop(owns (c : Thread nD τ) scM0_0 fullShare (ohOf m c)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `yOf` and `codesOf`; the invariant `PhiS`;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yOf m c t
    | ⟨6, _⟩ => codesOf m c
  Φ t := PhiS m c t.val
  q _ := fullShare
  owed _ := 0

/-- The proof data's arrays are the region-entry contents: the proof data's definition projected ). -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val := by
  dsimp only [dats]; rfl

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = yOf m c t := by dsimp only [dats]
theorem after0_6 (c : Dev nD) (t : Fin cfg0.N) : (dats m 0 c).after 6 t = codesOf m c := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- The codes block is stored at the first point only: window 6 is live there, -/
theorem idle0_6_iff (t : Fin cfg0.N) : cfg0.idle 6 (cfg0.grid.coords t) = false ↔ t.val % 36 = 0 := by
  rw [← hcond0_0 t]
  show (!(k0_cond1 (grid0.coords t) == 1#1)) = false ↔ cond0_0 (grid0.coords t)
  rw [Bool.not_eq_false', beq_iff_eq]
  exact Iff.rfl

/-- and its buffer holds what that point left from then on. -/
theorem fresh0_6 : ∀ n, 0 < n → n < 36 → cfg0.fresh 6 n = false
  | 0, h, _ => absurd h (by omega)
  | n + 1, _, h => by
    have hN : n < cfg0.N := lt_of_lt_of_eq (by omega) (show (36 : ℕ) = cfg0.N from N_0.symm)
    rw [Pipeline.Cfg.fresh_succ _ _ n hN]
    have hf : (cfg0.win 6).flush ⟨n, hN⟩ = false :=
      Bool.eq_false_iff.mpr fun h => by have := (flush0_6 _).mp h; dsimp only at this; omega
    rw [hf, Bool.false_or]
    by_cases h0 : n = 0
    · rw [(idle0_6_iff ⟨n, hN⟩).mpr (by simp [h0]), Bool.false_and]
    · rw [fresh0_6 n (by omega) (by omega), Bool.and_false]

/-- At a point of case B output 6's current staging buffer holds what the body left at the first point. -/
theorem before0_6_B (c : Dev nD) (t : Fin cfg0.N) (h0 : ¬t.val % 36 = 0) (d) :
    (dats m 0 c).before 6 t d = codesOf m c := by
  have hN : t.val < 36 := lt_of_lt_of_eq t.isLt (show cfg0.N = 36 from N_0)
  rw [(dats m 0 c).before_out_traj 6 rfl (fun _ _ => rfl) (fun _ _ _ _ => by dsimp only [dats]) t.val t rfl d,
    fresh0_6 t.val (by omega) hN, if_neg Bool.false_ne_true]
  dsimp only [dats]

/-- The codes block as the body leaves it is what the obligation asks of window 6: at a later point the buffer is handed back as it
    was found. -/
theorem leaves0_6 (c : Dev nD) (t : Fin cfg0.N) :
    owns (c : Thread nD τ) (ms0_6 t) fullShare (codesOf m c) ⊢ ((dats m 0 c).leavesExact 6 t : sProp 𝕄) := by
  by_cases h0 : t.val % 36 = 0
  · unfold Dat.leavesExact
    rw [(idle0_6_iff t).mpr h0]
    exact .rfl
  · have hi : cfg0.idle 6 (cfg0.grid.coords t) = true := by
      rw [← Bool.not_eq_false]; exact fun h => h0 ((idle0_6_iff t).mp h)
    cases hf : (cfg0.win 6).flush t
    · rw [Dat.leavesExact_idle _ _ _ hi hf]
      iintro H
      iexists codesOf m c
      rw [before0_6_B m c t h0]
      iexact H
    · unfold Dat.leavesExact
      rw [hi, hf]
      exact .rfl

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (dats m 0 c).leavesExact 6 t)

set_option maxHeartbeats 6400000 in
/-- The body at any point: at the first the run of case A, later the run of case B. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = PhiS m c (t.val + 1) from rfl, PhiS_succ]
  have hN : t.val < 36 := lt_of_lt_of_eq t.isLt (show cfg0.N = 36 from N_0)
  by_cases h0 : t.val % 36 = 0
  · by_cases hz : t.val = 0
    · rw [PhiS_castSucc m c t, PhiS_zero m c _ hz, PhiA0_eq]
      obtain rfl : t = t0 := Fin.ext hz
      rw [yOf_A m c t0 h0]
      unfold ohOf out0_A_5 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t0) _ _ _ _ _ _ _ _ _ _ _ _ _ _ _ _ ((hcond0_0 t0).mpr h0) (iblk m c 0 t0) (iblk m c 1 t0) (iblk m c 2 t0) (iblk m c 3 t0) (iblk m c 4 t0)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, ⟨%e5, H5⟩, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _)
      iapply (leaves0_6 m c t0)
      unfold codesOf out0_A_6 owns; iexists _; isplitr
      swap; · iexact H6
      ipureintro; exact View.read_writes_of_cover _ _ _ _ _ (cover0_A_6 c _ _ _ _ _ _ _ _ _ _ _ _ _ _ _ _ _ _ _ _ _ _ _)
    · exfalso; have hN : t.val < 36 := lt_of_lt_of_eq t.isLt (show cfg0.N = 36 from N_0); omega
  · by_cases hz : t.val = 0
    · exfalso; have hN : t.val < 36 := lt_of_lt_of_eq t.isLt (show cfg0.N = 36 from N_0); omega
    · rw [PhiS_castSucc m c t, PhiS_pos m c _ hz]
      rw [yOf_B m c t h0]
      simp only [before0_6_B m c t h0]
      unfold out0_B_5; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (iblk m c 0 t) (iblk m c 1 t) (iblk m c 2 t) (iblk m c 3 t) (iblk m c 4 t) (ohOf m c)).2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _)
      iapply (leaves0_6 m c t)
      iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val from rfl, PhiS_pos m c _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 36 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Hand

end
-- ==== Proof.VHash.lean ====
/-
  The kernel's hash as functions of its inputs: one group of 32 codebooks, given the transposed split dimensions and thresholds and
  the eight column tiles of the group. Every group of the kernel is these functions at its number.
-/
module

public import proofs.«01_k».proof.Proof.KFrame

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- The lane numbers 0, …, 127. -/
def lanes : IVec S1x128 32 := iota .tc S1x128 32 [1] iota_S1x128_d1_w32

/-- The lane number modulo `n`, as the kernel computes it (the floored remainder). -/
def laneMod (n : BitVec 32) : IVec S1x128 32 :=
  let d : BitVec 32 := Scalar.select (Scalar.cmpi .eq n 0#32) 1#32 n
  let r : IVec S1x128 32 := remsi lanes (broadcast S1x128 d)
  select (andi (xori (cmpi .slt r (broadcast S1x128 0#32)) (broadcastTo S1x128 (broadcast S1x128 (Scalar.cmpi .slt d 0#32)) broadcasts_S1x128_S1x128))
      (cmpi .ne r (broadcast S1x128 0#32)))
    (addi r (broadcast S1x128 d)) r

/-- `x / n` of a row of lanes, as the kernel computes it (the floored quotient). -/
def rowDiv (n : BitVec 32) (x : IVec S1x128 32) : IVec S1x128 32 :=
  let q : IVec S1x128 32 := divsi x (broadcast S1x128 n)
  select (andi (cmpi .ne (subi (extui 32 (cmpi .sgt x (broadcast S1x128 0#32)) natLt_1_32) (extui 32 (cmpi .slt x (broadcast S1x128 0#32)) natLt_1_32))
        (broadcast S1x128 (Scalar.subi (Scalar.extui (Scalar.cmpi .sgt n 0#32)) (Scalar.extui (Scalar.cmpi .slt n 0#32)))))
      (cmpi .ne (remsi x (broadcast S1x128 n)) (broadcast S1x128 0#32)))
    (subi q (broadcast S1x128 1#32)) q

/-- The leaf a one-hot lane stands for: its lane number modulo 16. -/
def leafRow : FVec F S1x128 .bf16 := truncf .bf16 (sitofp .f32 (laneMod 16#32)) bitsLt_bf16_f32

/-- The tile of a group that holds a lane's column: (lane mod 32) / 4. -/
def ownerRow : IVec S1x128 32 := rowDiv 4#32 (laneMod 32#32)

theorem slices_dims (g : Fin 7) (l : Fin 4) : S4x224.Slices ![l.val, 32 * g.val] S1x32 := by
  revert g l; decide
theorem slices_thrs (g : Fin 7) (n : Fin 15) : S15x224.Slices ![n.val, 32 * g.val] S1x32 := by
  revert g n; decide

/-- The split dimensions of group `g` in one row, level by level, each within its tile. -/
def dimRow (sd : IVec S4x224 32) (g : Fin 7) : IVec S1x128 32 :=
  andi (concatenate S1x128 1 [⟨S1x32, extractStridedSlice S1x32 ![0, 32 * g.val] sd (slices_dims g 0)⟩,
      ⟨S1x32, extractStridedSlice S1x32 ![1, 32 * g.val] sd (slices_dims g 1)⟩,
      ⟨S1x32, extractStridedSlice S1x32 ![2, 32 * g.val] sd (slices_dims g 2)⟩,
      ⟨S1x32, extractStridedSlice S1x32 ![3, 32 * g.val] sd (slices_dims g 3)⟩] concatenates_S1x32_S1x32_S1x32_S1x32_S1x128_d1)
    (broadcast S1x128 127#32)

/-- A tile's lanes taken at a row of lane numbers. -/
def laneTake (x : FVec F S256x128 .bf16) (idx : IVec S1x128 32) : FVec F S256x128 .bf16 :=
  let y : FVec F S256x128 .bf16 := interleaveRows S256x128 (rowsOfParity 0 S128x128 x bitcasts_S256x128_w16_S128x128_w32)
    (rowsOfParity 1 S128x128 x bitcasts_S256x128_w16_S128x128_w32) bitcasts_S256x128_w16_S128x128_w32
  let i : IVec S256x128 32 := broadcastTo S256x128 (shapeCast S1x128 idx shapeCasts_S1x128_S1x128) broadcasts_S1x128_S256x128
  truncf .bf16 (dynamicGather 1 (extf .f32 y bitsLt_bf16_f32)
    (shapeCast S256x128 (shapeCast S256x128x1
      (select (cmpi .slt i (broadcast S256x128 0#32)) (addi i (broadcast S256x128 128#32)) i)
      shapeCasts_S256x128_S256x128x1) shapeCasts_S256x128x1_S256x128)) bitsLt_bf16_f32

/-- The rows of parity `p` of a tile's lanes taken at a row of lane numbers. -/
def partOf (p : Fin 2) (idx : IVec S1x128 32) (x : Vec F S256x128 .bf16) : FVec F S128x128 .bf16 :=
  rowsOfParity p S128x128 (laneTake (shapeCast S256x128 x shapeCasts_S256x128_S256x128) idx) bitcasts_S256x128_w16_S128x128_w32

/-- The lanes that belong to tile `t`. -/
def owned (o : IVec S1x128 32) (t : BitVec 32) : IVec S128x128 1 :=
  broadcastTo S128x128 (shapeCast S1x128 (cmpi .eq o (broadcast S1x128 t)) shapeCasts_S1x128_S1x128) broadcasts_S1x128_S128x128

/-- The rows of parity `p` of the columns a group's lanes look at, gathered tile by tile. -/
def picked (p : Fin 2) (idx o : IVec S1x128 32) (x : Fin 8 → Vec F S256x128 .bf16) : FVec F S128x128 .bf16 :=
  select (owned o 7#32) (partOf p idx (x 7)) (select (owned o 6#32) (partOf p idx (x 6)) (select (owned o 5#32) (partOf p idx (x 5))
    (select (owned o 4#32) (partOf p idx (x 4)) (select (owned o 3#32) (partOf p idx (x 3)) (select (owned o 2#32) (partOf p idx (x 2))
      (select (owned o 1#32) (partOf p idx (x 1)) (partOf p idx (x 0))))))))

/-- The values level 0 compares. -/
def level0 (idx o : IVec S1x128 32) (x : Fin 8 → Vec F S256x128 .bf16) : FVec F S256x128 .bf16 :=
  interleaveRows S256x128 (picked 0 idx o x) (picked 1 idx o x) bitcasts_S256x128_w16_S128x128_w32
/-- The values a later level compares: the lanes rotated by `s`. -/
def levelAt (s : BitVec 32) (idx o : IVec S1x128 32) (x : Fin 8 → Vec F S256x128 .bf16) : FVec F S256x128 .bf16 :=
  interleaveRows S256x128 (dynamicRotate 1 s none (picked 0 idx o x) rotates_S128x128_d1)
    (dynamicRotate 1 s none (picked 1 idx o x) rotates_S128x128_d1) bitcasts_S256x128_w16_S128x128_w32

/-- The thresholds of node `n` of a group's codebooks, padded to the lanes. -/
def thrRow (th : FVec F S15x224 .f32) (g : Fin 7) (n : Fin 15) : FVec F S1x128 .bf16 :=
  truncf .bf16 (concatenate S1x128 1 [⟨S1x32, extractStridedSlice S1x32 ![n.val, 32 * g.val] th (slices_thrs g n)⟩,
    ⟨S1x96, broadcast S1x96 (Scalar.ofBits .f32 0x00000000#32)⟩] concatenates_S1x32_S1x96_S1x128_d1) bitsLt_bf16_f32
/-- A row over all rows. -/
def spread (x : FVec F S1x128 .bf16) : FVec F S256x128 .bf16 := broadcastTo S256x128 x broadcasts_S1x128_S256x128
/-- A row over all rows, after a cast that keeps its shape. -/
def spreadC (x : FVec F S1x128 .bf16) : FVec F S256x128 .bf16 :=
  broadcastTo S256x128 (shapeCast S1x128 x shapeCasts_S1x128_S1x128) broadcasts_S1x128_S256x128

/-- A bit of the code: `hi` where the comparison holds, 0 elsewhere. -/
def bitOf (b : IVec S256x128 1) (hi : BitVec 16) : FVec F S256x128 .bf16 :=
  select b (broadcast S256x128 (Scalar.ofBits .bf16 hi)) (broadcast S256x128 (Scalar.ofBits .bf16 0x0000#16))

/-- The walk down the tree: the leaf each lane's codebook ends in. -/
def walk (l0 l1 l2 l3 : FVec F S256x128 .bf16) (t : Fin 15 → FVec F S1x128 .bf16) : FVec F S256x128 .bf16 :=
  let b0 : IVec S256x128 1 := cmpf .ogt l0 (spread (t 0))
  let b1 : IVec S256x128 1 := cmpf .ogt l1 (select b0 (spreadC (t 2)) (spreadC (t 1)))
  let b2 : IVec S256x128 1 := cmpf .ogt l2 (select b0 (select b1 (spreadC (t 6)) (spreadC (t 5))) (select b1 (spreadC (t 4)) (spreadC (t 3))))
  let b3 : IVec S256x128 1 := cmpf .ogt l3 (select b0
    (select b1 (select b2 (spreadC (t 14)) (spreadC (t 13))) (select b2 (spreadC (t 12)) (spreadC (t 11))))
    (select b1 (select b2 (spreadC (t 10)) (spreadC (t 9))) (select b2 (spreadC (t 8)) (spreadC (t 7)))))
  addf (addf (bitOf b0 0x4100#16) (bitOf b1 0x4080#16)) (addf (bitOf b2 0x4000#16) (bitOf b3 0x3F80#16))

/-- The codes of group `g`, one lane a codebook (lanes 32 and up hold nothing that is read). -/
def codeVec (sd : IVec S4x224 32) (th : FVec F S15x224 .f32) (g : Fin 7) (x : Fin 8 → Vec F S256x128 .bf16) : FVec F S256x128 .bf16 :=
  walk (level0 (dimRow sd g) ownerRow x) (levelAt 96#32 (dimRow sd g) ownerRow x) (levelAt 64#32 (dimRow sd g) ownerRow x)
    (levelAt 32#32 (dimRow sd g) ownerRow x) (thrRow th g)

/-- The codes of a group as bytes. -/
def codesPiece (code : FVec F S256x128 .bf16) : IVec S256x32 8 :=
  trunci 8 (extractStridedSlice S256x32 ![0, 0] (fptosi 32 (extf .f32 code bitsLt_bf16_f32)) slices_S256x128_o0_0_S256x32) natLt_8_32

/-- The codebook, within its group, that a one-hot lane of block `q` belongs to. -/
def repRow (q : BitVec 32) : IVec S1x128 32 := addi (broadcast S1x128 q) (rowDiv 16#32 lanes)

/-- Block `q` of a group's one-hot rows: 8 codebooks of 16 leaves. -/
def onehotPiece (code : FVec F S256x128 .bf16) (q : BitVec 32) : FVec F S256x128 .bf16 :=
  let r : FVec F S256x128 .bf16 := laneTake code (repRow q)
  let r' : FVec F S256x128 .bf16 := interleaveRows S256x128 (rowsOfParity 0 S128x128 r bitcasts_S256x128_w16_S128x128_w32)
    (rowsOfParity 1 S128x128 r bitcasts_S256x128_w16_S128x128_w32) bitcasts_S256x128_w16_S128x128_w32
  shapeCast S256x128 (select (cmpf .oeq r' (spread leafRow)) (broadcast S256x128 (Scalar.ofBits .bf16 0x3F80#16))
    (broadcast S256x128 (Scalar.ofBits .bf16 0x0000#16))) shapeCasts_S256x128_S256x128

/-- The split dimensions, a row a level. -/
def dimsT (x1 : Vec F S224x4 .i32) : IVec S4x224 32 := transpose S4x224 [1, 0] x1 transposes_S224x4_p1_0_S4x224
/-- The thresholds, a row a node. -/
def thrsT (x2 : Vec F S224x15 .bf16) : FVec F S15x224 .f32 :=
  transpose S15x224 [1, 0] (extf .f32 (x2 : FVec F S224x15 .bf16) bitsLt_bf16_f32) transposes_S224x15_p1_0_S15x224

theorem inb_tile (g : Fin 7) (i : Fin 8) : ∀ a, (![0, 1024 * g.val + 128 * i.val] : Fin 2 → Nat) a + S256x128.size a ≤ S256x7168.size a := by
  revert g i; decide
theorem inb_codes (g : Fin 7) : ∀ a, (![0, 32 * g.val] : Fin 2 → Nat) a + S256x32.size a ≤ S256x224.size a := by
  revert g; decide
theorem inb_onehot (g : Fin 7) (q : Fin 4) : ∀ a, (![0, 512 * g.val + 128 * q.val] : Fin 2 → Nat) a + S256x128.size a ≤ S256x3584.size a := by
  revert g q; decide

theorem inb_lut (k : Fin 14) : ∀ a, (![16 * k.val, 0, 0] : Fin 3 → Nat) a + S16x16x512.size a ≤ S224x16x512.size a := by
  revert k; decide
theorem inb_oh (k : Fin 14) : ∀ a, (![0, 256 * k.val] : Fin 2 → Nat) a + S256x256.size a ≤ S256x3584.size a := by
  revert k; decide
theorem inb_scale (n : Fin 224) : ∀ a, (![n.val] : Fin 1 → Nat) a + S1.size a ≤ S224.size a := by
  intro a; have := n.isLt; fin_cases a; show n.val + 1 ≤ 224; omega

/-! ## The sum over the codebooks, in 14 chunks of 16 -/

/-- One chunk of the lookup table times its codebooks' scales, as rows of (codebook, leaf). -/
def chunkW (w : Vec F S16x16x512 .i8) (s : Fin 16 → F .f32) : FVec F S256x512 .bf16 :=
  shapeCast S256x512 (mulf (sitofp .bf16 (w : IVec S16x16x512 8))
    (broadcastTo S16x16x512 (truncf .bf16 (concatenate S16x1x512 0
      [⟨S1x1x512, broadcast S1x1x512 (s 0)⟩, ⟨S1x1x512, broadcast S1x1x512 (s 1)⟩, ⟨S1x1x512, broadcast S1x1x512 (s 2)⟩, ⟨S1x1x512, broadcast S1x1x512 (s 3)⟩, ⟨S1x1x512, broadcast S1x1x512 (s 4)⟩, ⟨S1x1x512, broadcast S1x1x512 (s 5)⟩, ⟨S1x1x512, broadcast S1x1x512 (s 6)⟩, ⟨S1x1x512, broadcast S1x1x512 (s 7)⟩, ⟨S1x1x512, broadcast S1x1x512 (s 8)⟩, ⟨S1x1x512, broadcast S1x1x512 (s 9)⟩, ⟨S1x1x512, broadcast S1x1x512 (s 10)⟩, ⟨S1x1x512, broadcast S1x1x512 (s 11)⟩, ⟨S1x1x512, broadcast S1x1x512 (s 12)⟩, ⟨S1x1x512, broadcast S1x1x512 (s 13)⟩, ⟨S1x1x512, broadcast S1x1x512 (s 14)⟩, ⟨S1x1x512, broadcast S1x1x512 (s 15)⟩]
      concatenates_S1x1x512_S1x1x512_S1x1x512_S1x1x512_S1x1x512_S1x1x512_S1x1x512_S1x1x512_S1x1x512_S1x1x512_S1x1x512_S1x1x512_S1x1x512_S1x1x512_S1x1x512_S1x1x512_S16x1x512_d0) bitsLt_bf16_f32) broadcasts_S16x1x512_S16x16x512)) shapeCasts_S16x16x512_S256x512
/-- One chunk's part of the sum. -/
def chunkDot (h : Vec F S256x256 .bf16) (w : Vec F S16x16x512 .i8) (s : Fin 16 → F .f32) : FVec F S256x512 .f32 :=
  matmul dot_S256x256_S256x512_S256x512_1_0_0_1_n_n none (h : FVec F S256x256 .bf16) (chunkW w s) (constant S256x512 .f32 0x00000000#32)
/-- The chunks up to `n`, added from the first on. -/
def chunkSum (d : ℕ → FVec F S256x512 .f32) : ℕ → FVec F S256x512 .f32
  | 0 => d 0
  | n + 1 => addf (chunkSum d n) (d (n + 1))

end Cert.KernelIdeal.Hand

end
-- ==== Proof.Spec.lean ====
/-
  The hash both programs compute: the walk down a codebook's binary tree of thresholds.
-/
module

public import Mathlib.Data.EReal.Basic

@[expose] public section

noncomputable section

namespace Cert.Maddness

open Classical in
/-- One comparison: 1 where the value exceeds the threshold. -/
def bit (v t : EReal) : ℕ := if t < v then 1 else 0

/-- Node `n`'s threshold. -/
def thrAt (t : Fin 15 → EReal) (n : ℕ) : EReal := if h : n < 15 then t ⟨n, h⟩ else 0

/-- The node of level 1 that the values `v` lead to, counted within its level. -/
def node1 (v : Fin 4 → EReal) (t : Fin 15 → EReal) : ℕ := bit (v 0) (thrAt t 0)
/-- The node of level 2. -/
def node2 (v : Fin 4 → EReal) (t : Fin 15 → EReal) : ℕ := 2 * node1 v t + bit (v 1) (thrAt t (1 + node1 v t))
/-- The node of level 3. -/
def node3 (v : Fin 4 → EReal) (t : Fin 15 → EReal) : ℕ := 2 * node2 v t + bit (v 2) (thrAt t (3 + node2 v t))
/-- The leaf the walk ends in. -/
def leaf (v : Fin 4 → EReal) (t : Fin 15 → EReal) : ℕ := 2 * node3 v t + bit (v 3) (thrAt t (7 + node3 v t))

theorem bit_lt (v t : EReal) : bit v t < 2 := by unfold bit; split <;> omega
theorem bit_pos {v t : EReal} (h : t < v) : bit v t = 1 := if_pos h
theorem bit_neg {v t : EReal} (h : ¬t < v) : bit v t = 0 := if_neg h

theorem node1_lt (v : Fin 4 → EReal) (t : Fin 15 → EReal) : node1 v t < 2 := bit_lt _ _
theorem node2_lt (v : Fin 4 → EReal) (t : Fin 15 → EReal) : node2 v t < 4 := by
  have h0 := node1_lt v t; have h1 := bit_lt (v 1) (thrAt t (1 + node1 v t)); unfold node2; omega
theorem node3_lt (v : Fin 4 → EReal) (t : Fin 15 → EReal) : node3 v t < 8 := by
  have h0 := node2_lt v t; have h1 := bit_lt (v 2) (thrAt t (3 + node2 v t)); unfold node3; omega
/-- A codebook has 16 leaves. -/
theorem leaf_lt (v : Fin 4 → EReal) (t : Fin 15 → EReal) : leaf v t < 16 := by
  have h0 := node3_lt v t; have h1 := bit_lt (v 3) (thrAt t (7 + node3 v t)); unfold leaf; omega

end Cert.Maddness

end
-- ==== Proof.VLane.lean ====
/-
  The hash's functions read at a row and a lane: which columns a lane's codebook looks at, and which thresholds it compares with.
-/
module

public import proofs.«01_k».proof.Proof.VHash
public import proofs.«01_k».proof.Proof.Spec
public import Idealize.ShloMosaic.Lib.Pointwise
public import Idealize.ShloMosaic.Lib.Bf16Pair
public import Idealize.ShloMosaic.Lib.Bf16PairInverse

@[expose] public section

set_option maxRecDepth 16384

noncomputable section

namespace Cert.KernelIdeal.Hand

open Cert.KernelIdeal Cert.KernelIdeal.Gen
open Idealize.ShloMosaic Idealize.ShloMosaic.TcCoe

/-- The owning tile of lane `c`, as a word. -/
theorem ownerRow_apply : ∀ c : Fin 128, ownerRow (ix2 0 c) = BitVec.ofNat 32 (c.val % 32 / 4) := by
  decide +kernel

/-- The codebook of one-hot lane `c` in block `q`, as a word. -/
theorem repRow_apply : ∀ (q : Fin 4) (c : Fin 128), repRow (BitVec.ofNat 32 (8 * q.val)) (ix2 0 c) = BitVec.ofNat 32 (8 * q.val + c.val / 16) := by
  decide +kernel

/-- The lane number modulo 16, as a word. -/
theorem laneMod_apply : ∀ c : Fin 128, laneMod 16#32 (ix2 0 c) = BitVec.ofNat 32 (c.val % 16) := by
  decide +kernel

/-- The leaf of one-hot lane `c`. -/
theorem leafRow_apply (c : Fin 128) : leafRow (F := Ideal) (ix2 0 c) = (((c.val % 16 : ℕ) : ℝ) : EReal) := by
  show (((laneMod 16#32 (ix2 0 c)).toInt : ℝ) : EReal) = _
  rw [laneMod_apply]
  have h : ∀ c : Fin 128, (BitVec.ofNat 32 (c.val % 16)).toInt = ((c.val % 16 : ℕ) : ℤ) := by decide +kernel
  rw [h]; norm_cast

/-- Lane `32 l + j` of a group's split dimensions: level `l` of the group's codebook `j`, within its tile. -/
theorem dimRow_apply (sd : IVec S4x224 32) (g : Fin 7) (l : Fin 4) (j : Fin 32) :
    dimRow sd g (ix2 0 ⟨32 * l.val + j.val, by omega⟩) = sd (ix2 l ⟨32 * g.val + j.val, by omega⟩) &&& 127#32 := by
  fin_cases l <;> pointwise [dimRow]
  · rfl
  · rfl
  · rw [dif_neg (by omega), dif_neg (by omega), dif_pos (by omega)]
    have e : 32 * g.val + (64 + j.val - 32 - 32) = 32 * g.val + j.val := by omega
    simp only [e]; rfl
  · rw [dif_neg (by omega), dif_neg (by omega), dif_neg (by omega)]
    have e : 32 * g.val + (96 + j.val - 32 - 32 - 32) = 32 * g.val + j.val := by omega
    simp only [e]; rfl

/-- A lane number with 128 added where it is negative names the same lane. -/
theorem wrap_mod (w : BitVec 32) :
    (Scalar.select (IntOp.cmpi CmpIPredicate.slt w 0#32) (IntOp.addi w 128#32) w).toNat % 128 = w.toNat % 128 := by
  have h : (w + 128#32).toNat % 128 = w.toNat % 128 := by
    rw [BitVec.toNat_add]; show (w.toNat + 128) % 2 ^ 32 % 128 = _; omega
  unfold Scalar.select
  split
  · exact h
  · rfl

/-- A tile's lanes taken at a row of lane numbers: lane `c` is lane `idx c` modulo 128. -/
theorem laneTake_apply (x : FVec Ideal S256x128 .bf16) (idx : IVec S1x128 32) (r : Fin 256) (c : Fin 128) :
    laneTake x idx (ix2 r c) = x (ix2 r ⟨(idx (ix2 0 c)).toNat % 128, Nat.mod_lt _ (by decide)⟩) := by
  pointwise [laneTake]
  simp only [wrap_mod]
  split
  · rename_i h
    have e : 2 * (r.val / 2) = r.val := by omega
    simp only [e]
  · rename_i h
    have e : 2 * (r.val / 2) + 1 = r.val := by omega
    simp only [e]

/-- Row `h` of one parity of a tile's lanes. -/
theorem partOf_apply (p : Fin 2) (idx : IVec S1x128 32) (x : Vec Ideal S256x128 .bf16) (h : Fin 128) (c : Fin 128) :
    partOf p idx x (ix2 h c) = x (ix2 ⟨2 * h.val + p.val, by omega⟩ ⟨(idx (ix2 0 c)).toNat % 128, Nat.mod_lt _ (by decide)⟩) := by
  fin_cases p <;> pointwise [partOf] <;> rw [laneTake_apply] <;> pointwise

/-- The tiles' gathers together: lane `c` is taken from the tile that owns it. -/
theorem picked_apply (p : Fin 2) (idx : IVec S1x128 32) (x : Fin 8 → Vec Ideal S256x128 .bf16) (h : Fin 128) (c : Fin 128) :
    picked p idx ownerRow x (ix2 h c)
      = x ⟨c.val % 32 / 4, by omega⟩ (ix2 ⟨2 * h.val + p.val, by omega⟩ ⟨(idx (ix2 0 c)).toNat % 128, Nat.mod_lt _ (by decide)⟩) := by
  have key : ∀ k : Fin 8, ownerRow (ix2 0 c) = BitVec.ofNat 32 k.val →
      picked p idx ownerRow x (ix2 h c) = partOf p idx (x k) (ix2 h c) := by
    intro k hk
    pointwise [picked, owned]
    rw [hk]
    fin_cases k <;> rfl
  rw [key ⟨c.val % 32 / 4, by omega⟩ (ownerRow_apply c), partOf_apply]

/-- The values level 0 compares. -/
theorem level0_apply (idx : IVec S1x128 32) (x : Fin 8 → Vec Ideal S256x128 .bf16) (r : Fin 256) (c : Fin 128) :
    level0 idx ownerRow x (ix2 r c)
      = x ⟨c.val % 32 / 4, by omega⟩ (ix2 r ⟨(idx (ix2 0 c)).toNat % 128, Nat.mod_lt _ (by decide)⟩) := by
  pointwise [level0]
  split
  · rename_i h
    rw [picked_apply]
    have e : 2 * (r.val / 2) + (0 : Fin 2).val = r.val := by show 2 * (r.val / 2) + 0 = r.val; omega
    simp only [e]
  · rename_i h
    rw [picked_apply]
    have e : 2 * (r.val / 2) + (1 : Fin 2).val = r.val := by show 2 * (r.val / 2) + 1 = r.val; omega
    simp only [e]

/-- The values a later level compares: the lanes rotated. -/
theorem levelAt_apply (s : BitVec 32) (idx : IVec S1x128 32) (x : Fin 8 → Vec Ideal S256x128 .bf16) (r : Fin 256) (c : Fin 128) (c' : Fin 128)
    (hc : c'.val = (c.val + 128 - s.toNat % 128) % 128) :
    levelAt s idx ownerRow x (ix2 r c)
      = x ⟨c'.val % 32 / 4, by omega⟩ (ix2 r ⟨(idx (ix2 0 c')).toNat % 128, Nat.mod_lt _ (by decide)⟩) := by
  obtain rfl : c' = ⟨(c.val + 128 - s.toNat % 128) % 128, Nat.mod_lt _ (by decide)⟩ := Fin.ext hc
  pointwise [levelAt]
  split
  · rename_i h
    rw [picked_apply]
    have e : 2 * (r.val / 2) + (0 : Fin 2).val = r.val := by show 2 * (r.val / 2) + 0 = r.val; omega
    simp only [e]
  · rename_i h
    rw [picked_apply]
    have e : 2 * (r.val / 2) + (1 : Fin 2).val = r.val := by show 2 * (r.val / 2) + 1 = r.val; omega
    simp only [e]

/-- Lane `j` of a group's row of thresholds: the threshold of the group's codebook `j`. -/
theorem thrRow_apply (th : FVec Ideal S15x224 .f32) (g : Fin 7) (n : Fin 15) (j : Fin 32) :
    thrRow th g n (ix2 0 ⟨j.val, by omega⟩) = th (ix2 n ⟨32 * g.val + j.val, by omega⟩) := by
  pointwise [thrRow]

/-! ## The walk -/

theorem ofBits_8 : Ideal.ofBits .bf16 0x4100#16 = ((8 : ℝ) : EReal) := by simp [Ideal.ofBits, Ideal.ieee, -EReal.coe_mul]; norm_num
theorem ofBits_4 : Ideal.ofBits .bf16 0x4080#16 = ((4 : ℝ) : EReal) := by simp [Ideal.ofBits, Ideal.ieee, -EReal.coe_mul]; norm_num
theorem ofBits_2 : Ideal.ofBits .bf16 0x4000#16 = ((2 : ℝ) : EReal) := by simp [Ideal.ofBits, Ideal.ieee, -EReal.coe_mul]; norm_num

open Cert.Maddness in
/-- The walk at a row and a lane: the leaf's number. -/
theorem walk_apply (l0 l1 l2 l3 : FVec Ideal S256x128 .bf16) (t : Fin 15 → FVec Ideal S1x128 .bf16) (r : Fin 256) (c : Fin 128) :
    walk l0 l1 l2 l3 t (ix2 r c)
      = (((leaf ![l0 (ix2 r c), l1 (ix2 r c), l2 (ix2 r c), l3 (ix2 r c)] (fun n => t n (ix2 0 c)) : ℕ) : ℝ) : EReal) := by
  pointwise [walk, spread, spreadC, bitOf]
  rw [ofBits_8, ofBits_4, ofBits_2]
  generalize l0 (ix2 r c) = a0; generalize l1 (ix2 r c) = a1; generalize l2 (ix2 r c) = a2; generalize l3 (ix2 r c) = a3
  rw [leaf, node3, node2, node1]
  simp only [Matrix.cons_val_zero, Matrix.cons_val_one, Matrix.cons_val]
  unfold bit
  have th : ∀ n : Fin 15, thrAt (fun n => t n (ix2 0 c)) n.val = t n (ix2 0 c) := fun n => dif_pos n.isLt
  have t0 : thrAt (fun n => t n (ix2 0 c)) 0 = t 0 (ix2 0 c) := th 0
  have t1 : thrAt (fun n => t n (ix2 0 c)) 1 = t 1 (ix2 0 c) := th 1
  have t2 : thrAt (fun n => t n (ix2 0 c)) 2 = t 2 (ix2 0 c) := th 2
  have t3 : thrAt (fun n => t n (ix2 0 c)) 3 = t 3 (ix2 0 c) := th 3
  have t4 : thrAt (fun n => t n (ix2 0 c)) 4 = t 4 (ix2 0 c) := th 4
  have t5 : thrAt (fun n => t n (ix2 0 c)) 5 = t 5 (ix2 0 c) := th 5
  have t6 : thrAt (fun n => t n (ix2 0 c)) 6 = t 6 (ix2 0 c) := th 6
  have t7 : thrAt (fun n => t n (ix2 0 c)) 7 = t 7 (ix2 0 c) := th 7
  have t8 : thrAt (fun n => t n (ix2 0 c)) 8 = t 8 (ix2 0 c) := th 8
  have t9 : thrAt (fun n => t n (ix2 0 c)) 9 = t 9 (ix2 0 c) := th 9
  have t10 : thrAt (fun n => t n (ix2 0 c)) 10 = t 10 (ix2 0 c) := th 10
  have t11 : thrAt (fun n => t n (ix2 0 c)) 11 = t 11 (ix2 0 c) := th 11
  have t12 : thrAt (fun n => t n (ix2 0 c)) 12 = t 12 (ix2 0 c) := th 12
  have t13 : thrAt (fun n => t n (ix2 0 c)) 13 = t 13 (ix2 0 c) := th 13
  have t14 : thrAt (fun n => t n (ix2 0 c)) 14 = t 14 (ix2 0 c) := th 14
  clear th
  generalize thrAt (fun n => t n (ix2 0 c)) = T at *
  have num : ∀ a b d e n : ℕ, a + b + (d + e) = n →
      (((a : ℝ) : EReal) + ((b : ℝ) : EReal)) + (((d : ℝ) : EReal) + ((e : ℝ) : EReal)) = ((n : ℝ) : EReal) := by
    intro a b d e n h; subst h; push_cast; rfl
  have e8 : ((8 : ℝ) : EReal) = (((8 : ℕ) : ℝ) : EReal) := by norm_num
  have e4 : ((4 : ℝ) : EReal) = (((4 : ℕ) : ℝ) : EReal) := by norm_num
  have e2 : ((2 : ℝ) : EReal) = (((2 : ℕ) : ℝ) : EReal) := by norm_num
  have e1 : (1 : EReal) = (((1 : ℕ) : ℝ) : EReal) := by norm_num
  have e0 : (0 : EReal) = (((0 : ℕ) : ℝ) : EReal) := by norm_num
  rw [e8, e4, e2, e1, e0]
  by_cases h0 : t 0 (ix2 0 c) < a0 <;> simp only [t0, h0, if_true, if_false, Nat.reduceMul, Nat.reduceAdd, t1, t2]
  · by_cases h1 : t 2 (ix2 0 c) < a1 <;> simp only [h1, if_true, if_false, Nat.reduceMul, Nat.reduceAdd, t5, t6]
    · by_cases h2 : t 6 (ix2 0 c) < a2 <;> simp only [h2, if_true, if_false, Nat.reduceMul, Nat.reduceAdd, t13, t14] <;> split <;> exact num _ _ _ _ _ rfl
    · by_cases h2 : t 5 (ix2 0 c) < a2 <;> simp only [h2, if_true, if_false, Nat.reduceMul, Nat.reduceAdd, t11, t12] <;> split <;> exact num _ _ _ _ _ rfl
  · by_cases h1 : t 1 (ix2 0 c) < a1 <;> simp only [h1, if_true, if_false, Nat.reduceMul, Nat.reduceAdd, t3, t4]
    · by_cases h2 : t 4 (ix2 0 c) < a2 <;> simp only [h2, if_true, if_false, Nat.reduceMul, Nat.reduceAdd, t9, t10] <;> split <;> exact num _ _ _ _ _ rfl
    · by_cases h2 : t 3 (ix2 0 c) < a2 <;> simp only [h2, if_true, if_false, Nat.reduceMul, Nat.reduceAdd, t7, t8] <;> split <;> exact num _ _ _ _ _ rfl

end Cert.KernelIdeal.Hand

end
-- ==== Proof.VCode.lean ====
/-
  The codes and one-hot rows of one group of codebooks, read at a row and a codebook: the leaf its walk ends in.
-/
module

public import proofs.«01_k».proof.Proof.VLane

@[expose] public section

set_option maxRecDepth 16384

noncomputable section

namespace Cert.KernelIdeal.Hand

open Cert.KernelIdeal Cert.KernelIdeal.Gen Cert.Maddness
open Idealize.ShloMosaic Idealize.ShloMosaic.TcCoe

theorem dimsT_apply (x1 : Vec Ideal S224x4 .i32) (l : Fin 4) (k : Fin 224) : dimsT x1 (ix2 l k) = x1 (ix2 k l) := by
  pointwise [dimsT]

theorem thrsT_apply (x2 : Vec Ideal S224x15 .bf16) (n : Fin 15) (k : Fin 224) : thrsT x2 (ix2 n k) = x2 (ix2 k n) := by
  pointwise [thrsT]

/-- A word's low seven bits as a lane number. -/
theorem lane_and (w : BitVec 32) : (w &&& 127#32).toNat % 128 = w.toNat % 128 := by
  rw [BitVec.toNat_and, show (127#32).toNat = 2 ^ 7 - 1 from rfl, Nat.and_two_pow_sub_one_eq_mod]; omega

/-- The leaf of codebook `k` in row `r`: the walk over the values of `x` at the codebook's split dimensions. -/
def leafAt (x : Vec Ideal S256x7168 .bf16) (sd : Vec Ideal S224x4 .i32) (th : Vec Ideal S224x15 .bf16) (r : Fin 256) (k : Fin 224) : ℕ :=
  leaf (fun l => x (ix2 r ⟨(sd (ix2 k l)).toNat % 7168, Nat.mod_lt _ (by decide)⟩)) (fun n => th (ix2 k n))

theorem leafAt_lt (x : Vec Ideal S256x7168 .bf16) (sd : Vec Ideal S224x4 .i32) (th : Vec Ideal S224x15 .bf16) (r : Fin 256) (k : Fin 224) :
    leafAt x sd th r k < 16 := leaf_lt _ _

/-- Each codebook's split dimensions lie within the 128 columns of the tile its subspace is in. -/
def InTile (sd : Vec Ideal S224x4 .i32) : Prop :=
  ∀ (k : Fin 224) (l : Fin 4), 128 * (k.val / 4) ≤ (sd (ix2 k l)).toNat ∧ (sd (ix2 k l)).toNat < 128 * (k.val / 4) + 128

/-- The codes of a group at a row and one of its codebooks. -/
theorem codeVec_apply (x : Vec Ideal S256x7168 .bf16) (sd : Vec Ideal S224x4 .i32) (th : Vec Ideal S224x15 .bf16) (hsd : InTile sd)
    (g : Fin 7) (xs : Fin 8 → Vec Ideal S256x128 .bf16)
    (hxs : ∀ (i : Fin 8) (r : Fin 256) (c : Fin 128), xs i (ix2 r c) = x (ix2 r ⟨1024 * g.val + 128 * i.val + c.val, by omega⟩))
    (r : Fin 256) (j : Fin 32) :
    codeVec (dimsT sd) (thrsT th) g xs (ix2 r ⟨j.val, by omega⟩) = (((leafAt x sd th r ⟨32 * g.val + j.val, by omega⟩ : ℕ) : ℝ) : EReal) := by
  have key : ∀ (l : Fin 4) (c' : Fin 128), c'.val = 32 * l.val + j.val →
      xs ⟨c'.val % 32 / 4, by omega⟩ (ix2 r ⟨(dimRow (dimsT sd) g (ix2 0 c')).toNat % 128, Nat.mod_lt _ (by decide)⟩)
        = x (ix2 r ⟨(sd (ix2 ⟨32 * g.val + j.val, by omega⟩ l)).toNat % 7168, Nat.mod_lt _ (by decide)⟩) := by
    intro l c' hc
    obtain ⟨c', hlt⟩ := c'
    subst hc
    rw [hxs]
    have h := hsd ⟨32 * g.val + j.val, by omega⟩ l
    dsimp only at h
    congr 2
    apply Fin.ext
    dsimp only
    rw [dimRow_apply, dimsT_apply, lane_and]
    omega
  have hth : ∀ n : Fin 15, thrRow (thrsT th) g n (ix2 0 ⟨j.val, by omega⟩) = th (ix2 ⟨32 * g.val + j.val, by omega⟩ n) := by
    intro n; rw [thrRow_apply, thrsT_apply]
  unfold codeVec
  rw [walk_apply]
  simp only [hth]
  rw [level0_apply, key 0 ⟨j.val, by omega⟩ (by simp),
    levelAt_apply 96#32 _ _ _ _ ⟨32 + j.val, by omega⟩ (by show 32 + j.val = (j.val + 128 - 96 % 128) % 128; omega), key 1 ⟨32 + j.val, by omega⟩ (by simp),
    levelAt_apply 64#32 _ _ _ _ ⟨64 + j.val, by omega⟩ (by show 64 + j.val = (j.val + 128 - 64 % 128) % 128; omega), key 2 ⟨64 + j.val, by omega⟩ (by simp),
    levelAt_apply 32#32 _ _ _ _ ⟨96 + j.val, by omega⟩ (by show 96 + j.val = (j.val + 128 - 32 % 128) % 128; omega), key 3 ⟨96 + j.val, by omega⟩ (by simp)]
  unfold leafAt
  congr 4
  funext l
  fin_cases l <;> rfl

/-- A leaf's number as a byte. -/
theorem fptosi_nat (n : ℕ) (h : n < 16) : Ideal.fptosi 32 (((n : ℕ) : ℝ) : EReal) = BitVec.ofNat 32 n := by
  have e : Ideal.fptosi 32 (((n : ℕ) : ℝ) : EReal) = BitVec.ofInt 32 (n : ℤ) := by
    rw [Ideal.fptosi, Ideal.toIntClamped_coe, if_pos (Nat.cast_nonneg n), Int.floor_natCast, min_eq_right (by norm_num; omega), max_eq_right (by norm_num)]
  rw [e]; exact BitVec.ofInt_natCast 32 n

/-- The stored codes of a group. -/
theorem codesPiece_apply (code : FVec Ideal S256x128 .bf16) (r : Fin 256) (j : Fin 32) (n : ℕ) (hn : n < 16)
    (h : code (ix2 r ⟨j.val, by omega⟩) = (((n : ℕ) : ℝ) : EReal)) : codesPiece code (ix2 r j) = BitVec.ofNat 8 n := by
  pointwise [codesPiece]
  rw [h]
  show BitVec.setWidth 8 (Ideal.fptosi 32 (((n : ℕ) : ℝ) : EReal)) = _
  rw [fptosi_nat n hn]
  interval_cases n <;> rfl

/-- A stored one-hot block: 1 at the lane of the leaf, 0 at the codebook's other lanes. -/
theorem onehotPiece_apply (code : FVec Ideal S256x128 .bf16) (q : Fin 4) (r : Fin 256) (c : Fin 128) (n : ℕ)
    (h : code (ix2 r ⟨8 * q.val + c.val / 16, by omega⟩) = (((n : ℕ) : ℝ) : EReal)) :
    onehotPiece code (BitVec.ofNat 32 (8 * q.val)) (ix2 r c) = if n = c.val % 16 then (1 : EReal) else 0 := by
  pointwise [onehotPiece, spread]
  simp only [laneTake_apply, leafRow_apply, repRow_apply]
  have e1 : (BitVec.ofNat 32 (8 * q.val + c.val / 16)).toNat % 128 = 8 * q.val + c.val / 16 := by
    rw [BitVec.toNat_ofNat]; omega
  have e2 : (if r.val % 2 = 0 then code (ix2 ⟨2 * (r.val / 2), by omega⟩ ⟨8 * q.val + c.val / 16, by omega⟩)
      else code (ix2 ⟨2 * (r.val / 2) + 1, by omega⟩ ⟨8 * q.val + c.val / 16, by omega⟩)) = (((n : ℕ) : ℝ) : EReal) := by
    rw [← h]
    split
    · have e : 2 * (r.val / 2) = r.val := by omega
      simp only [e]
    · have e : 2 * (r.val / 2) + 1 = r.val := by omega
      simp only [e]
  simp only [e1, e2]
  have e3 : ((((n : ℕ) : ℝ) : EReal) = (((c.val % 16 : ℕ) : ℝ) : EReal)) ↔ n = c.val % 16 := by
    rw [EReal.coe_eq_coe_iff, Nat.cast_inj]
  simp only [e3]

end Cert.KernelIdeal.Hand

end
-- ==== Proof.VSum.lean ====
/-
  The kernel's sum over the codebooks, read at a row and a column of a block: 14 chunks of 16 codebooks are one sum over the 224.
-/
module

public import proofs.«01_k».proof.Proof.VLane

@[expose] public section

set_option maxRecDepth 16384

noncomputable section

namespace Cert.KernelIdeal.Hand

open Cert.KernelIdeal Cert.KernelIdeal.Gen
open Idealize.ShloMosaic Idealize.ShloMosaic.TcCoe

/-- A sum over `a * b` terms in `a` blocks of `b`. -/
theorem sum_blocks (f : ℕ → EReal) (b : ℕ) : ∀ a : ℕ, ∑ i ∈ Finset.range (a * b), f i = ∑ q ∈ Finset.range a, ∑ j ∈ Finset.range b, f (b * q + j)
  | 0 => by simp
  | a + 1 => by rw [Nat.succ_mul, Finset.sum_range_add, sum_blocks f b a, Finset.sum_range_succ, Nat.mul_comm a b]

/-- The chunks up to `n` at a row and a column. -/
theorem chunkSum_apply (d : ℕ → FVec Ideal S256x512 .f32) (r : Fin 256) (c : Fin 512) (n : ℕ) :
    chunkSum d n (ix2 r c) = ∑ k ∈ Finset.range (n + 1), d k (ix2 r c) := by
  induction n with
  | zero => rw [Finset.sum_range_one]; rfl
  | succ n ih => rw [Finset.sum_range_succ, ← ih]; rfl

/-- A chunk's weights at codebook `m` of the chunk and leaf `k`. -/
theorem chunkW_apply (w : Vec Ideal S16x16x512 .i8) (s : Fin 16 → EReal) (m k : Fin 16) (c : Fin 512) :
    chunkW (F := Ideal) w s (ix2 ⟨16 * m.val + k.val, by omega⟩ c) = (((BitVec.toInt (w (ix3 m k c))) : ℝ) : EReal) * s m := by
  pointwise [chunkW]
  refine congrArg₂ (· * ·) rfl ?_
  fin_cases m <;> rfl

/-- A chunk's part of the sum at a row and a column. -/
theorem chunkDot_apply (h : Vec Ideal S256x256 .bf16) (w : Vec Ideal S16x16x512 .i8) (s : Fin 16 → EReal) (r : Fin 256) (c : Fin 512) :
    chunkDot (F := Ideal) h w s (ix2 r c) = ∑ κ : Fin 256, h (ix2 r κ) * chunkW (F := Ideal) w s (ix2 κ c) := by
  pointwise [chunkDot]

end Cert.KernelIdeal.Hand

end
-- ==== Proof.VPieces.lean ====
/-
  The pieces the body stores at the first grid point, written with the functions of the hash.
-/
module

public import proofs.«01_k».proof.Proof.VHash
public import Idealize.ShloMosaic.Lib.Claim
public import Idealize.ShloMosaic.Lib.Pipeline.TableIdle

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The codes of group `g` at the first point, over the loads of the input buffers. -/
def codeAt (arg1 : Memref sig .tc .vmem S256x7168 .bf16) (harg1 : arg1.IsWhole) (arg2 : Memref sig .tc .vmem S224x4 .i32) (harg2 : arg2.IsWhole) (arg3 : Memref sig .tc .vmem S224x15 .bf16) (harg3 : arg3.IsWhole) (x0 : Vec F S256x7168 .bf16) (x1 : Vec F S224x4 .i32) (x2 : Vec F S224x15 .bf16) (g : Fin 7) : FVec F S256x128 .bf16 :=
  codeVec (dimsT (View.readAt (Elt F) arg2.view (Rect.unit (s := S224x4) ![0, 0] S224x4.size inb_S224x4_S224x4_0_0).toLoadRect (harg2.unread x1)))
    (thrsT (View.readAt (Elt F) arg3.view (Rect.unit (s := S224x15) ![0, 0] S224x15.size inb_S224x15_S224x15_0_0).toLoadRect (harg3.unread x2))) g
    (fun i => View.readAt (Elt F) arg1.view (Rect.unit (s := S256x7168) ![0, 1024 * g.val + 128 * i.val] S256x128.size (inb_tile g i)).toLoadRect (harg1.unread x0))
/-- Group `g`'s piece of the codes. -/
def codesAt (arg1 : Memref sig .tc .vmem S256x7168 .bf16) (harg1 : arg1.IsWhole) (arg2 : Memref sig .tc .vmem S224x4 .i32) (harg2 : arg2.IsWhole) (arg3 : Memref sig .tc .vmem S224x15 .bf16) (harg3 : arg3.IsWhole) (x0 : Vec F S256x7168 .bf16) (x1 : Vec F S224x4 .i32) (x2 : Vec F S224x15 .bf16) (g : Fin 7) : View.Piece (Elt F) S256x224 .i8 :=
  ⟨Rect.unit ![0, 32 * g.val] S256x32.size (inb_codes g), codesPiece (codeAt arg1 harg1 arg2 harg2 arg3 harg3 x0 x1 x2 g)⟩

/-- The codes the body stores at the first point, last group first. -/
theorem pieces_codes (c : Dev nD) (i : grid0.Coords) (arg1 : Memref sig .tc .vmem S256x7168 .bf16) (harg1 : arg1.IsWhole) (arg2 : Memref sig .tc .vmem S224x4 .i32) (harg2 : arg2.IsWhole) (arg3 : Memref sig .tc .vmem S224x15 .bf16) (harg3 : arg3.IsWhole) (arg4 : Memref sig .tc .vmem S224x16x512 .i8) (harg4 : arg4.IsWhole) (arg5 : Memref sig .tc .smem S224 .f32) (harg5 : arg5.IsWhole) (arg6 : Memref sig .tc .vmem S256x512 .bf16) (harg6 : arg6.IsWhole) (arg7 : Memref sig .tc .vmem S256x224 .i8) (harg7 : arg7.IsWhole) (arg8 : Memref sig .tc .vmem S256x3584 .bf16) (harg8 : arg8.IsWhole) (hc0 : cond0_0 i)
    (x0 : Vec F S256x7168 .bf16) (x1 : Vec F S224x4 .i32) (x2 : Vec F S224x15 .bf16) (x3 : Vec F S224x16x512 .i8) (x4 : Vec F S224 .f32) : (kernelRun0_A c i arg1 harg1 arg2 harg2 arg3 harg3 arg4 harg4 arg5 harg5 arg6 harg6 arg7 harg7 arg8 harg8 hc0 x0 x1 x2 x3 x4).2.1
    = [codesAt arg1 harg1 arg2 harg2 arg3 harg3 x0 x1 x2 6, codesAt arg1 harg1 arg2 harg2 arg3 harg3 x0 x1 x2 5, codesAt arg1 harg1 arg2 harg2 arg3 harg3 x0 x1 x2 4, codesAt arg1 harg1 arg2 harg2 arg3 harg3 x0 x1 x2 3, codesAt arg1 harg1 arg2 harg2 arg3 harg3 x0 x1 x2 2, codesAt arg1 harg1 arg2 harg2 arg3 harg3 x0 x1 x2 1, codesAt arg1 harg1 arg2 harg2 arg3 harg3 x0 x1 x2 0] := by
  dsimp only [kernelRun0_A]
  rfl

/-- Block `q` of group `g`'s piece of the one-hot rows. -/
def onehotAt (arg1 : Memref sig .tc .vmem S256x7168 .bf16) (harg1 : arg1.IsWhole) (arg2 : Memref sig .tc .vmem S224x4 .i32) (harg2 : arg2.IsWhole) (arg3 : Memref sig .tc .vmem S224x15 .bf16) (harg3 : arg3.IsWhole) (x0 : Vec F S256x7168 .bf16) (x1 : Vec F S224x4 .i32) (x2 : Vec F S224x15 .bf16) (g : Fin 7) (q : Fin 4) : View.Piece (Elt F) S256x3584 .bf16 :=
  ⟨Rect.unit ![0, 512 * g.val + 128 * q.val] S256x128.size (inb_onehot g q), onehotPiece (codeAt arg1 harg1 arg2 harg2 arg3 harg3 x0 x1 x2 g) (BitVec.ofNat 32 (8 * q.val))⟩
/-- The one-hot rows' pieces, last first. -/
def onehots (arg1 : Memref sig .tc .vmem S256x7168 .bf16) (harg1 : arg1.IsWhole) (arg2 : Memref sig .tc .vmem S224x4 .i32) (harg2 : arg2.IsWhole) (arg3 : Memref sig .tc .vmem S224x15 .bf16) (harg3 : arg3.IsWhole) (x0 : Vec F S256x7168 .bf16) (x1 : Vec F S224x4 .i32) (x2 : Vec F S224x15 .bf16) : List (View.Piece (Elt F) S256x3584 .bf16) :=
  [onehotAt arg1 harg1 arg2 harg2 arg3 harg3 x0 x1 x2 6 3, onehotAt arg1 harg1 arg2 harg2 arg3 harg3 x0 x1 x2 6 2, onehotAt arg1 harg1 arg2 harg2 arg3 harg3 x0 x1 x2 6 1, onehotAt arg1 harg1 arg2 harg2 arg3 harg3 x0 x1 x2 6 0, onehotAt arg1 harg1 arg2 harg2 arg3 harg3 x0 x1 x2 5 3, onehotAt arg1 harg1 arg2 harg2 arg3 harg3 x0 x1 x2 5 2, onehotAt arg1 harg1 arg2 harg2 arg3 harg3 x0 x1 x2 5 1, onehotAt arg1 harg1 arg2 harg2 arg3 harg3 x0 x1 x2 5 0, onehotAt arg1 harg1 arg2 harg2 arg3 harg3 x0 x1 x2 4 3, onehotAt arg1 harg1 arg2 harg2 arg3 harg3 x0 x1 x2 4 2, onehotAt arg1 harg1 arg2 harg2 arg3 harg3 x0 x1 x2 4 1, onehotAt arg1 harg1 arg2 harg2 arg3 harg3 x0 x1 x2 4 0, onehotAt arg1 harg1 arg2 harg2 arg3 harg3 x0 x1 x2 3 3, onehotAt arg1 harg1 arg2 harg2 arg3 harg3 x0 x1 x2 3 2, onehotAt arg1 harg1 arg2 harg2 arg3 harg3 x0 x1 x2 3 1, onehotAt arg1 harg1 arg2 harg2 arg3 harg3 x0 x1 x2 3 0, onehotAt arg1 harg1 arg2 harg2 arg3 harg3 x0 x1 x2 2 3, onehotAt arg1 harg1 arg2 harg2 arg3 harg3 x0 x1 x2 2 2, onehotAt arg1 harg1 arg2 harg2 arg3 harg3 x0 x1 x2 2 1, onehotAt arg1 harg1 arg2 harg2 arg3 harg3 x0 x1 x2 2 0, onehotAt arg1 harg1 arg2 harg2 arg3 harg3 x0 x1 x2 1 3, onehotAt arg1 harg1 arg2 harg2 arg3 harg3 x0 x1 x2 1 2, onehotAt arg1 harg1 arg2 harg2 arg3 harg3 x0 x1 x2 1 1, onehotAt arg1 harg1 arg2 harg2 arg3 harg3 x0 x1 x2 1 0, onehotAt arg1 harg1 arg2 harg2 arg3 harg3 x0 x1 x2 0 3, onehotAt arg1 harg1 arg2 harg2 arg3 harg3 x0 x1 x2 0 2, onehotAt arg1 harg1 arg2 harg2 arg3 harg3 x0 x1 x2 0 1, onehotAt arg1 harg1 arg2 harg2 arg3 harg3 x0 x1 x2 0 0]
/-- Chunk `k` of the sum, over the loads of the one-hot rows `h`, the table and the scales. -/
def chunkAt (arg4 : Memref sig .tc .vmem S224x16x512 .i8) (harg4 : arg4.IsWhole) (arg5 : Memref sig .tc .smem S224 .f32) (harg5 : arg5.IsWhole) (x3 : Vec F S224x16x512 .i8) (x4 : Vec F S224 .f32)
    (h : Fin 14 → Vec F S256x256 .bf16) (k : ℕ) : FVec F S256x512 .f32 :=
  if hk : k < 14 then
    chunkDot (h ⟨k, hk⟩) (View.readAt (Elt F) arg4.view (Rect.unit (s := S224x16x512) ![16 * k, 0, 0] S16x16x512.size (inb_lut ⟨k, hk⟩)).toLoadRect (harg4.unread x3))
      (fun i => View.readAt (Elt F) arg5.view (Rect.unit (s := S224) ![16 * k + i.val] S1.size (inb_scale ⟨16 * k + i.val, by omega⟩)).toLoadRect (harg5.unread x4) (Shape.Idx.first (numel1_S1.symm ▸ Nat.one_pos)))
  else constant S256x512 .f32 0x00000000#32

/-- The one-hot rows the body stores at the first point. -/
theorem pieces_onehots (c : Dev nD) (i : grid0.Coords) (arg1 : Memref sig .tc .vmem S256x7168 .bf16) (harg1 : arg1.IsWhole) (arg2 : Memref sig .tc .vmem S224x4 .i32) (harg2 : arg2.IsWhole) (arg3 : Memref sig .tc .vmem S224x15 .bf16) (harg3 : arg3.IsWhole) (arg4 : Memref sig .tc .vmem S224x16x512 .i8) (harg4 : arg4.IsWhole) (arg5 : Memref sig .tc .smem S224 .f32) (harg5 : arg5.IsWhole) (arg6 : Memref sig .tc .vmem S256x512 .bf16) (harg6 : arg6.IsWhole) (arg7 : Memref sig .tc .vmem S256x224 .i8) (harg7 : arg7.IsWhole) (arg8 : Memref sig .tc .vmem S256x3584 .bf16) (harg8 : arg8.IsWhole) (hc0 : cond0_0 i)
    (x0 : Vec F S256x7168 .bf16) (x1 : Vec F S224x4 .i32) (x2 : Vec F S224x15 .bf16) (x3 : Vec F S224x16x512 .i8) (x4 : Vec F S224 .f32) : (kernelRun0_A c i arg1 harg1 arg2 harg2 arg3 harg3 arg4 harg4 arg5 harg5 arg6 harg6 arg7 harg7 arg8 harg8 hc0 x0 x1 x2 x3 x4).2.2.1
    = onehots arg1 harg1 arg2 harg2 arg3 harg3 x0 x1 x2 := by
  dsimp only [kernelRun0_A]
  rfl

/-- The `y` block the body stores at the first point: the sum over the one-hot rows just stored. -/
theorem pieces_y_A (c : Dev nD) (i : grid0.Coords) (arg1 : Memref sig .tc .vmem S256x7168 .bf16) (harg1 : arg1.IsWhole) (arg2 : Memref sig .tc .vmem S224x4 .i32) (harg2 : arg2.IsWhole) (arg3 : Memref sig .tc .vmem S224x15 .bf16) (harg3 : arg3.IsWhole) (arg4 : Memref sig .tc .vmem S224x16x512 .i8) (harg4 : arg4.IsWhole) (arg5 : Memref sig .tc .smem S224 .f32) (harg5 : arg5.IsWhole) (arg6 : Memref sig .tc .vmem S256x512 .bf16) (harg6 : arg6.IsWhole) (arg7 : Memref sig .tc .vmem S256x224 .i8) (harg7 : arg7.IsWhole) (arg8 : Memref sig .tc .vmem S256x3584 .bf16) (harg8 : arg8.IsWhole) (hc0 : cond0_0 i)
    (x0 : Vec F S256x7168 .bf16) (x1 : Vec F S224x4 .i32) (x2 : Vec F S224x15 .bf16) (x3 : Vec F S224x16x512 .i8) (x4 : Vec F S224 .f32) : (kernelRun0_A c i arg1 harg1 arg2 harg2 arg3 harg3 arg4 harg4 arg5 harg5 arg6 harg6 arg7 harg7 arg8 harg8 hc0 x0 x1 x2 x3 x4).1
    = [⟨Rect.unit ![0, 0] S256x512.size inb_S256x512_S256x512_0_0,
        truncf .bf16 (chunkSum (chunkAt arg4 harg4 arg5 harg5 x3 x4 (fun k => arg8.view.readCov (onehots arg1 harg1 arg2 harg2 arg3 harg3 x0 x1 x2)
          (Rect.unit (s := S256x3584) ![0, 256 * k.val] S256x256.size (inb_oh k)).toLoadRect)) 13) bitsLt_bf16_f32⟩] := by
  rw [← pieces_onehots c i arg1 harg1 arg2 harg2 arg3 harg3 arg4 harg4 arg5 harg5 arg6 harg6 arg7 harg7 arg8 harg8 hc0 x0 x1 x2 x3 x4]
  dsimp only [kernelRun0_A]
  rfl

/-- The `y` block the body stores at a later point: the sum over the one-hot rows the scratch holds. -/
theorem pieces_y_B (c : Dev nD) (i : grid0.Coords) (arg1 : Memref sig .tc .vmem S256x7168 .bf16) (harg1 : arg1.IsWhole) (arg2 : Memref sig .tc .vmem S224x4 .i32) (harg2 : arg2.IsWhole) (arg3 : Memref sig .tc .vmem S224x15 .bf16) (harg3 : arg3.IsWhole) (arg4 : Memref sig .tc .vmem S224x16x512 .i8) (harg4 : arg4.IsWhole) (arg5 : Memref sig .tc .smem S224 .f32) (harg5 : arg5.IsWhole) (arg6 : Memref sig .tc .vmem S256x512 .bf16) (harg6 : arg6.IsWhole) (arg7 : Memref sig .tc .vmem S256x224 .i8) (harg7 : arg7.IsWhole) (arg8 : Memref sig .tc .vmem S256x3584 .bf16) (harg8 : arg8.IsWhole) (hc0 : ¬cond0_0 i)
    (x0 : Vec F S256x7168 .bf16) (x1 : Vec F S224x4 .i32) (x2 : Vec F S224x15 .bf16) (x3 : Vec F S224x16x512 .i8) (x4 : Vec F S224 .f32) (xs0 : Vec F S256x3584 .bf16) : (kernelRun0_B c i arg1 harg1 arg2 harg2 arg3 harg3 arg4 harg4 arg5 harg5 arg6 harg6 arg7 harg7 arg8 harg8 hc0 x0 x1 x2 x3 x4 xs0).1
    = [⟨Rect.unit ![0, 0] S256x512.size inb_S256x512_S256x512_0_0,
        truncf .bf16 (chunkSum (chunkAt arg4 harg4 arg5 harg5 x3 x4 (fun k => View.readAt (Elt F) arg8.view
          (Rect.unit (s := S256x3584) ![0, 256 * k.val] S256x256.size (inb_oh k)).toLoadRect (harg8.unread xs0))) 13) bitsLt_bf16_f32⟩] := by
  dsimp only [kernelRun0_B]
  rfl

end Cert.KernelIdeal.Hand

end
-- ==== Proof.VRead.lean ====
/-
  What the first grid point leaves in the codes block and in the one-hot scratch, at an index.
-/
module

public import proofs.«01_k».proof.Proof.VCode
public import proofs.«01_k».proof.Proof.VSum
public import proofs.«01_k».proof.Proof.VPieces
public import Idealize.ShloMosaic.Lib.Pipeline.ReadBack
public import Idealize.ShloMosaic.Lib.Pipeline.FrameBody

@[expose] public section

set_option maxRecDepth 16384

noncomputable section

namespace Cert.KernelIdeal.Hand

open Cert.KernelIdeal Cert.KernelIdeal.Gen Cert.Maddness
open Idealize.ShloMosaic Idealize.ShloMosaic.TcCoe

section
variable (arg1 : Memref sig .tc .vmem S256x7168 .bf16) (harg1 : arg1.IsWhole) (arg2 : Memref sig .tc .vmem S224x4 .i32) (harg2 : arg2.IsWhole)
  (arg3 : Memref sig .tc .vmem S224x15 .bf16) (harg3 : arg3.IsWhole)
  (arg4 : Memref sig .tc .vmem S224x16x512 .i8) (harg4 : arg4.IsWhole) (arg5 : Memref sig .tc .smem S224 .f32) (harg5 : arg5.IsWhole)
  (x0 : Vec Ideal S256x7168 .bf16) (x1 : Vec Ideal S224x4 .i32) (x2 : Vec Ideal S224x15 .bf16) (x3 : Vec Ideal S224x16x512 .i8) (x4 : Vec Ideal S224 .f32)

/-- The codes of a group over the loads of its inputs. -/
theorem codeAt_apply (hsd : InTile x1) (g : Fin 7) (r : Fin 256) (j : Fin 32) :
    codeAt arg1 harg1 arg2 harg2 arg3 harg3 x0 x1 x2 g (ix2 r ⟨j.val, by omega⟩)
      = (((leafAt x0 x1 x2 r ⟨32 * g.val + j.val, by omega⟩ : ℕ) : ℝ) : EReal) := by
  unfold codeAt
  rw [View.readAt_eq_ld, View.readAt_eq_ld, harg2.read_unread, harg3.read_unread]
  have e1 : View.ld x1 (Rect.unit (s := S224x4) ![0, 0] S224x4.size inb_S224x4_S224x4_0_0) = x1 := by
    funext y; rw [Idealize.ShloMosaic.eq_ix2 y]; pointwise
  have e2 : View.ld x2 (Rect.unit (s := S224x15) ![0, 0] S224x15.size inb_S224x15_S224x15_0_0) = x2 := by
    funext y; rw [Idealize.ShloMosaic.eq_ix2 y]; pointwise
  rw [e1, e2]
  refine codeVec_apply x0 x1 x2 hsd g _ ?_ r j
  intro i r c
  rw [View.readAt_eq_ld, harg1.read_unread]
  pointwise

/-- The codes as bytes. -/
def codeBytes (y : S256x224.Idx) : BitVec 8 := BitVec.ofNat 8 (leafAt x0 x1 x2 (y 0) (y 1))

/-- A group's piece of the codes is a block of the codes. -/
theorem codesAt_block (hsd : InTile x1) (g : Fin 7) (y : (codesAt arg1 harg1 arg2 harg2 arg3 harg3 x0 x1 x2 g).1.shape.Idx) :
    (codesAt arg1 harg1 arg2 harg2 arg3 harg3 x0 x1 x2 g).2 y = codeBytes x0 x1 x2 ((codesAt arg1 harg1 arg2 harg2 arg3 harg3 x0 x1 x2 g).1.emb y) := by
  change S256x32.Idx at y
  have h := codesPiece_apply (codeAt arg1 harg1 arg2 harg2 arg3 harg3 x0 x1 x2 g) (y 0) (y 1) _ (leafAt_lt x0 x1 x2 _ _)
    (codeAt_apply arg1 harg1 arg2 harg2 arg3 harg3 x0 x1 x2 hsd g (y 0) (y 1))
  rw [show (ix2 (y 0) (y 1) : S256x32.Idx) = y from ix2_eta y] at h
  refine Eq.trans h ?_
  show BitVec.ofNat 8 (leafAt x0 x1 x2 _ _) = BitVec.ofNat 8 (leafAt x0 x1 x2 _ _)
  congr 2 <;> apply Fin.ext
  · show (y 0).val = 0 + 1 * (y 0).val; omega
  · show 32 * g.val + (y 1).val = 32 * g.val + 1 * (y 1).val; omega

/-- The one-hot rows: row `r`'s lane of codebook `m` and leaf `k` is 1 where the codebook's leaf is `k`. -/
def onehotRows (y : S256x3584.Idx) : EReal :=
  if leafAt x0 x1 x2 (y 0) ⟨(y 1).val / 16, by have : (y 1).val < 3584 := (y 1).isLt; omega⟩ = (y 1).val % 16 then 1 else 0

/-- A one-hot piece is a block of the one-hot rows. -/
theorem onehotAt_block (hsd : InTile x1) (g : Fin 7) (q : Fin 4) (y : (onehotAt arg1 harg1 arg2 harg2 arg3 harg3 x0 x1 x2 g q).1.shape.Idx) :
    (onehotAt arg1 harg1 arg2 harg2 arg3 harg3 x0 x1 x2 g q).2 y = onehotRows x0 x1 x2 ((onehotAt arg1 harg1 arg2 harg2 arg3 harg3 x0 x1 x2 g q).1.emb y) := by
  change S256x128.Idx at y
  have hy : (y 1).val < 128 := (y 1).isLt
  have h := onehotPiece_apply (codeAt arg1 harg1 arg2 harg2 arg3 harg3 x0 x1 x2 g) q (y 0) (y 1) _
    (codeAt_apply arg1 harg1 arg2 harg2 arg3 harg3 x0 x1 x2 hsd g (y 0) ⟨8 * q.val + (y 1).val / 16, by omega⟩)
  rw [show (ix2 (y 0) (y 1) : S256x128.Idx) = y from ix2_eta y] at h
  refine Eq.trans h ?_
  have e0 : ((onehotAt arg1 harg1 arg2 harg2 arg3 harg3 x0 x1 x2 g q).1.emb y 0 : Fin 256) = y 0 :=
    Fin.ext (by show 0 + 1 * (y 0).val = (y 0).val; omega)
  have e1 : ((onehotAt arg1 harg1 arg2 harg2 arg3 harg3 x0 x1 x2 g q).1.emb y 1 : Fin 3584).val = 512 * g.val + 128 * q.val + (y 1).val := by
    show 512 * g.val + 128 * q.val + 1 * (y 1).val = _; omega
  unfold onehotRows
  have e2 : (512 * g.val + 128 * q.val + (y 1).val) / 16 = 32 * g.val + (8 * q.val + (y 1).val / 16) := by omega
  have e3 : (512 * g.val + 128 * q.val + (y 1).val) % 16 = (y 1).val % 16 := by omega
  simp only [e0, e1, e2, e3]

/-- The pieces of the codes, last first. -/
def codesList : List (View.Piece (Elt Ideal) S256x224 .i8) :=
  [codesAt arg1 harg1 arg2 harg2 arg3 harg3 x0 x1 x2 6, codesAt arg1 harg1 arg2 harg2 arg3 harg3 x0 x1 x2 5, codesAt arg1 harg1 arg2 harg2 arg3 harg3 x0 x1 x2 4, codesAt arg1 harg1 arg2 harg2 arg3 harg3 x0 x1 x2 3, codesAt arg1 harg1 arg2 harg2 arg3 harg3 x0 x1 x2 2, codesAt arg1 harg1 arg2 harg2 arg3 harg3 x0 x1 x2 1, codesAt arg1 harg1 arg2 harg2 arg3 harg3 x0 x1 x2 0]

/-- What the pieces of the codes leave. -/
theorem canon_codes (hsd : InTile x1) (y : S256x224.Idx)
    (hc : ∃ p ∈ (codesList arg1 harg1 arg2 harg2 arg3 harg3 x0 x1 x2), y ∈ p.1.set) :
    View.canon (codesList arg1 harg1 arg2 harg2 arg3 harg3 x0 x1 x2) y = codeBytes x0 x1 x2 y := by
  have B := codesAt_block arg1 harg1 arg2 harg2 arg3 harg3 x0 x1 x2 hsd
  have P : View.PiecesOf (codeBytes x0 x1 x2) (codesList arg1 harg1 arg2 harg2 arg3 harg3 x0 x1 x2) := ⟨B 6, B 5, B 4, B 3, B 2, B 1, B 0, trivial⟩
  rw [← List.append_nil (codesList arg1 harg1 arg2 harg2 arg3 harg3 x0 x1 x2)]
  exact View.canon_append_of_piecesOf (codeBytes x0 x1 x2) [] _ P y hc

/-- What the pieces of the one-hot rows leave. -/
theorem canon_onehots (hsd : InTile x1) (y : S256x3584.Idx)
    (hc : ∃ p ∈ onehots arg1 harg1 arg2 harg2 arg3 harg3 x0 x1 x2, y ∈ p.1.set) :
    View.canon (onehots arg1 harg1 arg2 harg2 arg3 harg3 x0 x1 x2) y = onehotRows x0 x1 x2 y := by
  have B := onehotAt_block arg1 harg1 arg2 harg2 arg3 harg3 x0 x1 x2 hsd
  have P : View.PiecesOf (onehotRows x0 x1 x2) (onehots arg1 harg1 arg2 harg2 arg3 harg3 x0 x1 x2) :=
    ⟨B 6 3, B 6 2, B 6 1, B 6 0, B 5 3, B 5 2, B 5 1, B 5 0, B 4 3, B 4 2, B 4 1, B 4 0, B 3 3, B 3 2, B 3 1, B 3 0, B 2 3, B 2 2, B 2 1, B 2 0, B 1 3, B 1 2, B 1 1, B 1 0, B 0 3, B 0 2, B 0 1, B 0 0, trivial⟩
  rw [← List.append_nil (onehots arg1 harg1 arg2 harg2 arg3 harg3 x0 x1 x2)]
  exact View.canon_append_of_piecesOf (onehotRows x0 x1 x2) [] _ P y hc

/-- One element of the `y` block over one-hot rows `h`: the sum over codebooks and leaves. -/
def sumAt (h : S256x3584.Idx → EReal) (r : Fin 256) (c : Fin 512) : EReal :=
  ∑ m : Fin 224, ∑ k : Fin 16, h (ix2 r ⟨16 * m.val + k.val, by omega⟩) * (((BitVec.toInt (x3 (ix3 m k c)) : ℝ) : EReal) * x4 (ix1 m))

/-- The chunks' sum is that sum, whatever the one-hot rows hold. -/
theorem chunks_apply (H : S256x3584.Idx → EReal) (h : Fin 14 → Vec Ideal S256x256 .bf16)
    (hh : ∀ (k : Fin 14) (r κ : Fin 256), h k (ix2 r κ) = H (ix2 r ⟨256 * k.val + κ.val, by omega⟩)) (r : Fin 256) (c : Fin 512) :
    chunkSum (chunkAt arg4 harg4 arg5 harg5 x3 x4 h) 13 (ix2 r c) = sumAt x3 x4 H r c := by
  let f : ℕ → EReal := fun i => if hi : i < 3584 then
    H (ix2 r ⟨i, hi⟩) * (((BitVec.toInt (x3 (ix3 ⟨i / 16, by omega⟩ ⟨i % 16, by omega⟩ c)) : ℝ) : EReal) * x4 (ix1 ⟨i / 16, by omega⟩)) else 0
  have hf : ∀ (m : Fin 224) (k : Fin 16), f (16 * m.val + k.val)
      = H (ix2 r ⟨16 * m.val + k.val, by omega⟩) * (((BitVec.toInt (x3 (ix3 m k c)) : ℝ) : EReal) * x4 (ix1 m)) := by
    intro m k
    have e1 : (16 * m.val + k.val) / 16 = m.val := by omega
    have e2 : (16 * m.val + k.val) % 16 = k.val := by omega
    simp only [f]
    rw [dif_pos (by omega)]
    simp only [e1, e2]
  have hL : ∀ k ∈ Finset.range 14, chunkAt arg4 harg4 arg5 harg5 x3 x4 h k (ix2 r c) = ∑ κ ∈ Finset.range 256, f (256 * k + κ) := by
    intro k hk
    have hk : k < 14 := Finset.mem_range.mp hk
    unfold chunkAt
    rw [dif_pos hk, chunkDot_apply, Finset.sum_range]
    refine Finset.sum_congr rfl fun κ _ => ?_
    have hκ := chunkW_apply (View.readAt (Elt Ideal) arg4.view (Rect.unit (s := S224x16x512) ![16 * k, 0, 0] S16x16x512.size (inb_lut ⟨k, hk⟩)).toLoadRect (harg4.unread x3))
      (fun i => View.readAt (Elt Ideal) arg5.view (Rect.unit (s := S224) ![16 * k + i.val] S1.size (inb_scale ⟨16 * k + i.val, by omega⟩)).toLoadRect (harg5.unread x4) (Shape.Idx.first (numel1_S1.symm ▸ Nat.one_pos)))
      ⟨κ.val / 16, by omega⟩ ⟨κ.val % 16, by omega⟩ c
    have e : 16 * (κ.val / 16) + κ.val % 16 = κ.val := by omega
    simp only [e] at hκ
    rw [hκ, hh]
    have e1 : 256 * k + κ.val = 16 * (16 * k + κ.val / 16) + κ.val % 16 := by omega
    have := hf ⟨16 * k + κ.val / 16, by omega⟩ ⟨κ.val % 16, by omega⟩
    dsimp only at this
    simp only [← e1] at this
    rw [this]
    rw [View.readAt_eq_ld, harg4.read_unread, View.readAt_eq_ld, harg5.read_unread]
    refine congrArg₂ (· * ·) rfl (congrArg₂ (· * ·) ?_ ?_)
    · pointwise
    · pointwise
  rw [chunkSum_apply, Finset.sum_congr rfl hL, ← sum_blocks f 256 14, show 14 * 256 = 224 * 16 from rfl, sum_blocks f 16 224, Finset.sum_range]
  unfold sumAt
  refine Finset.sum_congr rfl fun m _ => ?_
  rw [Finset.sum_range]
  exact Finset.sum_congr rfl fun k _ => hf m k

end

end Cert.KernelIdeal.Hand

end
-- ==== Proof.VRun.lean ====
/-
  The ideal kernel's results after the run: every `y` block at every point, and the two result arrays.
-/
module

public import proofs.«01_k».proof.Proof.VRead
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen Cert.Maddness
open Idealize.ShloMosaic Idealize.ShloMosaic.TcCoe

variable (m : (ℓ : Loc nD τ sig) → Buf (Elt Ideal) ℓ)

/-- A truncation changes no value of this domain. -/
theorem truncf_y (s : FVec Ideal S256x512 .f32) (y : S256x512.Idx) : truncf (F := Ideal) .bf16 s bitsLt_bf16_f32 y = s y := rfl

/-- The one-hot scratch after the first point. -/
theorem ohOf_eq (c : Dev nD) (hsd : InTile (iblk m c 1 t0)) : ohOf m c = onehotRows (iblk m c 0 t0) (iblk m c 1 t0) (iblk m c 2 t0) := by
  funext y
  have hc := scover0_A_0 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) scM0_0 (Memref.isWhole_whole _) ((hcond0_0 t0).mpr ht0) (iblk m c 0 t0) (iblk m c 1 t0) (iblk m c 2 t0) (iblk m c 3 t0) (iblk m c 4 t0) y
  unfold ohOf sout0_A_0
  rw [View.read_writes_junk_eq_canon]
  rw [pieces_onehots] at hc ⊢
  exact canon_onehots _ _ _ _ _ _ _ _ _ hsd y hc

/-- The codes block after the first point. -/
theorem codesOf_eq (c : Dev nD) (hsd : InTile (iblk m c 1 t0)) : codesOf m c = codeBytes (iblk m c 0 t0) (iblk m c 1 t0) (iblk m c 2 t0) := by
  funext y
  have hc := cover0_A_6 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) scM0_0 (Memref.isWhole_whole _) ((hcond0_0 t0).mpr ht0) (iblk m c 0 t0) (iblk m c 1 t0) (iblk m c 2 t0) (iblk m c 3 t0) (iblk m c 4 t0) y
  unfold codesOf out0_A_6
  rw [View.read_writes_junk_eq_canon]
  rw [pieces_codes] at hc ⊢
  exact canon_codes _ _ _ _ _ _ _ _ _ hsd y hc

/-- The `y` block after any point: the sum over the codebooks. -/
theorem yOf_apply (c : Dev nD) (hsd : InTile (iblk m c 1 t0)) (t : Fin cfg0.N) (r : Fin 256) (d : Fin 512) :
    yOf m c t (ix2 r d) = sumAt (iblk m c 3 t) (iblk m c 4 t) (onehotRows (iblk m c 0 t0) (iblk m c 1 t0) (iblk m c 2 t0)) r d := by
  by_cases h0 : t.val % 36 = 0
  · have hN : t.val < 36 := lt_of_lt_of_eq t.isLt (show cfg0.N = 36 from N_0)
    obtain rfl : t = t0 := Fin.ext (show t.val = 0 by omega)
    have hc := scover0_A_0 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) scM0_0 (Memref.isWhole_whole _) ((hcond0_0 t0).mpr ht0) (iblk m c 0 t0) (iblk m c 1 t0) (iblk m c 2 t0) (iblk m c 3 t0) (iblk m c 4 t0)
    rw [yOf_A m c t0 h0]
    unfold out0_A_5
    rw [View.read_writes_junk_eq_canon, pieces_y_A, View.canon_unit_zero (by funext a; fin_cases a <;> rfl)]
    rw [pieces_onehots] at hc
    rw [truncf_y]
    refine chunks_apply _ _ _ _ _ _ _ _ ?_ r d
    intro k r κ
    rw [View.readCov_eq_canon']
    show View.canon _ _ = _
    rw [canon_onehots _ _ _ _ _ _ _ _ _ hsd _ (hc _)]
    pointwise
  · rw [yOf_B m c t h0]
    unfold out0_B_5
    rw [View.read_writes_junk_eq_canon, pieces_y_B, View.canon_unit_zero (by funext a; fin_cases a <;> rfl)]
    rw [truncf_y]
    refine chunks_apply _ _ _ _ _ _ _ _ ?_ r d
    intro k r κ
    rw [View.readAt_eq_ld, Memref.IsWhole.read_unread, ohOf_eq m c hsd]
    pointwise

end Cert.KernelIdeal.Hand

end
-- ==== Proof.SpecVal.lean ====
/-
  The two results, as functions of the arguments, at an index: what both programs are shown to compute.
-/
module

public import proofs.«01_k».proof.Proof.Spec
public import Idealize.ShloMosaic.Lib.Pointwise

@[expose] public section

noncomputable section

namespace Cert.Maddness

open Idealize.ShloMosaic

variable (x : (⟨3, ![2, 128, 7168]⟩ : Shape).Idx → EReal) (sd : (⟨2, ![224, 4]⟩ : Shape).Idx → BitVec 32)
  (th : (⟨2, ![224, 15]⟩ : Shape).Idx → EReal) (lut : (⟨3, ![224, 16, 18432]⟩ : Shape).Idx → BitVec 8) (sc : (⟨1, ![224]⟩ : Shape).Idx → EReal)

/-- The leaf of codebook `k` for token `(b, s)`: the walk over the token's values at the codebook's split dimensions. -/
def leafOf (b : Fin 2) (s : Fin 128) (k : Fin 224) : ℕ :=
  leaf (fun l => x (ix3 b s ⟨(sd (ix2 k l)).toNat % 7168, Nat.mod_lt _ (by decide)⟩)) (fun n => th (ix2 k n))

/-- The codes: each leaf's number as a byte. -/
def codeOf (b : Fin 2) (s : Fin 128) (k : Fin 224) : BitVec 8 := BitVec.ofNat 8 (leafOf x sd th b s k)

/-- The output: for each codebook, the row of its table at the leaf, times the codebook's scale, summed over the codebooks
    (the row is selected by a sum over the leaves against a one-hot row). -/
def outOf (b : Fin 2) (s : Fin 128) (d : Fin 18432) : EReal :=
  ∑ k : Fin 224, ∑ j : Fin 16, (if leafOf x sd th b s k = j.val then (1 : EReal) else 0) * (((BitVec.toInt (lut (ix3 k j d)) : ℝ) : EReal) * sc (ix1 k))

end Cert.Maddness

end
-- ==== Proof.VArr.lean ====
/-
  The ideal kernel's result arrays after the run, in terms of its arguments.
-/
module

public import proofs.«01_k».proof.Proof.VRun
public import proofs.«01_k».proof.Proof.SpecVal

@[expose] public section

set_option maxRecDepth 16384

noncomputable section

namespace Cert.KernelIdeal.Hand

open Cert.KernelIdeal Cert.KernelIdeal.Gen Cert.Maddness
open Idealize.ShloMosaic Idealize.ShloMosaic.TcCoe

variable (m : (ℓ : Loc nD τ sig) → Buf (Elt Ideal) ℓ) (ρ : Dev nD → PrngReg)

/-- The arguments' contents as launched. -/
abbrev aX (c : Dev nD) : Vec Ideal S2x128x7168 .bf16 := m ((c.tc : Thread nD τ).loc main_arg0)
abbrev aDims (c : Dev nD) : Vec Ideal S224x4 .i32 := m ((c.tc : Thread nD τ).loc main_arg1)
abbrev aThrs (c : Dev nD) : Vec Ideal S224x15 .bf16 := m ((c.tc : Thread nD τ).loc main_arg2)
abbrev aLut (c : Dev nD) : Vec Ideal S224x16x18432 .i8 := m ((c.tc : Thread nD τ).loc main_arg3)
abbrev aScale (c : Dev nD) : Vec Ideal S224 .f32 := m ((c.tc : Thread nD τ).loc main_arg4)

theorem idx0 : ∀ t : Fin cfg0.N, win0_0.index t = ![0, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0, t.val] := by decide +kernel
theorem idx4 : ∀ t : Fin cfg0.N, win0_4.index t = ![0] := by decide +kernel
theorem idx5 : ∀ t : Fin cfg0.N, win0_5.index t = ![0, t.val] := by decide +kernel
theorem idx6 : ∀ t : Fin cfg0.N, win0_6.index t = ![0, 0] := by decide +kernel

/-- Each input's block at a point, read off its argument. -/
theorem iblk0_apply (c : Dev nD) (t : Fin cfg0.N) (r : Fin 256) (k : Fin 7168) :
    iblk m c 0 t (ix2 r k) = aX m c (ix3 ⟨r.val / 128, by omega⟩ ⟨r.val % 128, by omega⟩ k) := by
  have hV : V m c main_v0 = shapeCast S256x7168 (aX m c) shapeCasts_S2x128x7168_S256x7168 := by
    show StableHlo.after [StableHlo.reshape main_arg0 main_v0 (rfl : (.bf16 : EltTy) = .bf16) shapeCasts_S2x128x7168_S256x7168] (fun b => m (c, b)) (Proc.devRef .tc main_v0) = _
    rw [StableHlo.after_cons, StableHlo.after_nil, StableHlo.reshape_result]
    rfl
  have he : ((cfg0.win 0).blk t).view.emb (ix2 r k) = ix2 r k := by blk_ext [idx0 t]
  show V m c main_v0 (((cfg0.win 0).blk t).view.emb (ix2 r k)) = _
  rw [hV, he]
  pointwise
theorem iblk1_eq (c : Dev nD) (t : Fin cfg0.N) : iblk m c 1 t = aDims m c := by
  funext y
  blk_ext [iblk, V, idx1 t]
theorem iblk2_eq (c : Dev nD) (t : Fin cfg0.N) : iblk m c 2 t = aThrs m c := by
  funext y
  blk_ext [iblk, V, idx2 t]
theorem iblk3_apply (c : Dev nD) (t : Fin cfg0.N) (a : Fin 224) (k : Fin 16) (d : Fin 512) :
    iblk m c 3 t (ix3 a k d) = aLut m c (ix3 a k ⟨512 * t.val + d.val, by have : t.val < 36 := lt_of_lt_of_eq t.isLt N_0; omega⟩) := by
  blk_ext [iblk, V, idx3 t]
theorem iblk4_eq (c : Dev nD) (t : Fin cfg0.N) : iblk m c 4 t = aScale m c := by
  funext y
  blk_ext [iblk, V, idx4 t]

/-- The leaf both programs walk to, over the blocks. -/
theorem leafAt_iblk (c : Dev nD) (t : Fin cfg0.N) (r : Fin 256) (k : Fin 224) :
    leafAt (iblk m c 0 t) (iblk m c 1 t) (iblk m c 2 t) r k
      = leafOf (aX m c) (aDims m c) (aThrs m c) ⟨r.val / 128, by omega⟩ ⟨r.val % 128, by omega⟩ k := by
  unfold leafAt leafOf
  rw [iblk1_eq, iblk2_eq]
  simp only [iblk0_apply]

/-- The array of codes after the run. -/
def codesArr (c : Dev nD) : Vec Ideal S256x224 .i8 := fun y =>
  codeOf (aX m c) (aDims m c) (aThrs m c) ⟨(y 0).val / 128, by have : (y 0).val < 256 := (y 0).isLt; omega⟩ ⟨(y 0).val % 128, by omega⟩ (y 1)
/-- The array of `y` after the run. -/
def yArr (c : Dev nD) : Vec Ideal S256x18432 .bf16 := fun y =>
  outOf (aX m c) (aDims m c) (aThrs m c) (aLut m c) (aScale m c) ⟨(y 0).val / 128, by have : (y 0).val < 256 := (y 0).isLt; omega⟩ ⟨(y 0).val % 128, by omega⟩ (y 1)

theorem arr6 (c : Dev nD) (hsd : InTile (aDims m c)) : (dats m 0 c).arrAt 6 (cfgs 0).N = codesArr m c := by
  refine (dats m 0 c).arrAt_eq_of_covers 6 _ (by decide +kernel) fun t hf y => ?_
  blk_simp
  rw [after0_6, codesOf_eq m c (by rw [iblk1_eq]; exact hsd)]
  obtain ⟨r, k, rfl⟩ : ∃ (r : Fin 256) (k : Fin 224), y = (ix2 r k : S256x224.Idx) := ⟨y 0, y 1, eq_ix2 (n0 := 256) (n1 := 224) y⟩
  have he : ((cfg0.win 6).blk t).view.emb (ix2 r k) = (ix2 r k : S256x224.Idx) := by blk_ext [idx6 t]
  show codeBytes _ _ _ (ix2 r k) = codesArr m c (((cfg0.win 6).blk t).view.emb (ix2 r k))
  rw [he]
  show BitVec.ofNat 8 (leafAt (iblk m c 0 t0) (iblk m c 1 t0) (iblk m c 2 t0) r k) = _
  rw [leafAt_iblk]
  rfl

theorem arr5 (c : Dev nD) (hsd : InTile (aDims m c)) : (dats m 0 c).arrAt 5 (cfgs 0).N = yArr m c := by
  refine (dats m 0 c).arrAt_eq_of_covers 5 _ (by decide +kernel) fun t hf y => ?_
  blk_simp
  rw [after0_5]
  obtain ⟨r, d, rfl⟩ : ∃ (r : Fin 256) (d : Fin 512), y = (ix2 r d : S256x512.Idx) := ⟨y 0, y 1, eq_ix2 (n0 := 256) (n1 := 512) y⟩
  have ht : t.val < 36 := lt_of_lt_of_eq t.isLt N_0
  have he : ((cfg0.win 5).blk t).view.emb (ix2 r d) = (ix2 r ⟨512 * t.val + d.val, by omega⟩ : S256x18432.Idx) := by blk_ext [idx5 t]
  show yOf m c t (ix2 r d) = yArr m c (((cfg0.win 5).blk t).view.emb (ix2 r d))
  rw [he, yOf_apply m c (by rw [iblk1_eq]; exact hsd)]
  show _ = outOf (aX m c) (aDims m c) (aThrs m c) (aLut m c) (aScale m c) ⟨r.val / 128, by omega⟩ ⟨r.val % 128, by omega⟩ ⟨512 * t.val + d.val, by omega⟩
  unfold sumAt outOf
  refine Finset.sum_congr rfl fun k _ => Finset.sum_congr rfl fun j _ => ?_
  rw [iblk3_apply, iblk4_eq]
  refine congrArg₂ (· * ·) ?_ rfl
  show (if leafAt (iblk m c 0 t0) (iblk m c 1 t0) (iblk m c 2 t0) r ⟨(16 * k.val + j.val) / 16, by omega⟩ = (16 * k.val + j.val) % 16 then (1 : EReal) else 0)
    = if leafOf (aX m c) (aDims m c) (aThrs m c) ⟨r.val / 128, by omega⟩ ⟨r.val % 128, by omega⟩ k = j.val then (1 : EReal) else 0
  have e1 : (16 * k.val + j.val) / 16 = k.val := by omega
  have e2 : (16 * k.val + j.val) % 16 = j.val := by omega
  simp only [e1, e2, leafAt_iblk]

end Cert.KernelIdeal.Hand

end
-- ==== Proof.VFinal.lean ====
/-
  The ideal kernel's run: both results at their closed forms, every argument unchanged.
-/
module

public import proofs.«01_k».proof.Proof.VArr

@[expose] public section

set_option maxRecDepth 16384

noncomputable section

namespace Cert.KernelIdeal.Hand

open Cert.KernelIdeal Cert.KernelIdeal.Gen Cert.Maddness
open Idealize.ShloMosaic Idealize.ShloMosaic.TcCoe Idealize.SL.Sem

variable (m : (ℓ : Loc nD τ sig) → Buf (Elt Ideal) ℓ) (ρ : Dev nD → PrngReg)

/-- The first result: the table sums, at every batch entry, row and output column. -/
def yRes (c : Dev nD) : Vec Ideal S2x128x18432 .bf16 :=
  fun i => outOf (aX m c) (aDims m c) (aThrs m c) (aLut m c) (aScale m c) (i 0) (i 1) (i 2)

/-- The second result: the leaf numbers, at every batch entry, row and codebook. -/
def codesRes (c : Dev nD) : Vec Ideal S2x128x224 .i8 := fun i => codeOf (aX m c) (aDims m c) (aThrs m c) (i 0) (i 1) (i 2)

/-- Row `128 b + s` of the table sums is row `s` of batch entry `b`. -/
theorem cast_y (c : Dev nD) : shapeCast S2x128x18432 (yArr m c) shapeCasts_S256x18432_S2x128x18432 = yRes m c := by
  funext i
  obtain ⟨b, s, d, rfl⟩ : ∃ (b : Fin 2) (s : Fin 128) (d : Fin 18432), i = (ix3 b s d : S2x128x18432.Idx) :=
    ⟨i 0, i 1, i 2, eq_ix3 (n0 := 2) (n1 := 128) (n2 := 18432) i⟩
  pointwise
  have e1 : (⟨(b.val * 128 + s.val) / 128, by omega⟩ : Fin 2) = b := Fin.ext (by show (b.val * 128 + s.val) / 128 = b.val; omega)
  have e2 : (⟨(b.val * 128 + s.val) % 128, by omega⟩ : Fin 128) = s := Fin.ext (by show (b.val * 128 + s.val) % 128 = s.val; omega)
  show outOf (aX m c) (aDims m c) (aThrs m c) (aLut m c) (aScale m c) ⟨(b.val * 128 + s.val) / 128, _⟩ ⟨(b.val * 128 + s.val) % 128, _⟩ d = _
  rw [e1, e2]
  rfl

/-- Row `128 b + s` of the codes is row `s` of batch entry `b`. -/
theorem cast_codes (c : Dev nD) : shapeCast S2x128x224 (codesArr m c) shapeCasts_S256x224_S2x128x224 = codesRes m c := by
  funext i
  obtain ⟨b, s, k, rfl⟩ : ∃ (b : Fin 2) (s : Fin 128) (k : Fin 224), i = (ix3 b s k : S2x128x224.Idx) :=
    ⟨i 0, i 1, i 2, eq_ix3 (n0 := 2) (n1 := 128) (n2 := 224) i⟩
  pointwise
  have e1 : (⟨(b.val * 128 + s.val) / 128, by omega⟩ : Fin 2) = b := Fin.ext (by show (b.val * 128 + s.val) / 128 = b.val; omega)
  have e2 : (⟨(b.val * 128 + s.val) % 128, by omega⟩ : Fin 128) = s := Fin.ext (by show (b.val * 128 + s.val) % 128 = s.val; omega)
  show codeOf (aX m c) (aDims m c) (aThrs m c) ⟨(b.val * 128 + s.val) / 128, _⟩ ⟨(b.val * 128 + s.val) % 128, _⟩ k = _
  rw [e1, e2]
  rfl

/-- What the host reshapes leave in the first result. -/
theorem W_v2 (c : Dev nD) (hsd : InTile (aDims m c)) :
    Pipeline.afterTail₀ cfgs (dats m) 0 (V0 m) [hostOps1] c main_v2 = yRes m c := by
  unfold Pipeline.afterTail₀
  rw [show ([hostOps1].flatten : List (HloOp τ sig (Elt Ideal))) = hostOps1 from rfl, StableHlo.after_cons, StableHlo.after_cons, StableHlo.after_nil,
    StableHlo.reshape_result_ne _ _ _ _ _ _ _ (by decide), StableHlo.reshape_result]
  have h := (Pipeline.withArrays_arr spec0 (by decide) c (V0 m c) (fun w => (dats m 0 c).arrAt w (cfgs 0).N) 5).trans (arr5 m c hsd)
  exact (congrArg (fun v => shapeCast S2x128x18432 v shapeCasts_S256x18432_S2x128x18432) h).trans (cast_y m c)

/-- What the host reshapes leave in the second result. -/
theorem W_v3 (c : Dev nD) (hsd : InTile (aDims m c)) :
    Pipeline.afterTail₀ cfgs (dats m) 0 (V0 m) [hostOps1] c main_v3 = codesRes m c := by
  unfold Pipeline.afterTail₀
  rw [show ([hostOps1].flatten : List (HloOp τ sig (Elt Ideal))) = hostOps1 from rfl, StableHlo.after_cons, StableHlo.after_cons, StableHlo.after_nil,
    StableHlo.reshape_result]
  have h := (Pipeline.withArrays_arr spec0 (by decide) c (V0 m c) (fun w => (dats m 0 c).arrAt w (cfgs 0).N) 6).trans (arr6 m c hsd)
  refine Eq.trans ?_ (cast_codes m c)
  refine congrArg (fun v => shapeCast S2x128x224 v shapeCasts_S256x224_S2x128x224) ?_
  exact (StableHlo.reshape_result_ne _ _ _ _ _ _ _ (by decide)).trans h

/-- The ideal kernel's run: both results at their closed forms, every argument unchanged. -/
theorem run (hsd : ∀ c, InTile (aDims m c)) :
    θ_run defs (onTc (τ := τ) (main (F := Ideal))) ⟨m, fun _ => 0, ρ⟩ (fun r => ∀ c : Dev nD,
      r.2.mem ((c.tc : Thread nD τ).loc main_v2) = yRes m c
      ∧ r.2.mem ((c.tc : Thread nD τ).loc main_v3) = codesRes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
      ⟨((h.1 c).2 main_v2 (Pipeline.mem_restRefs_of main_v2 (by decide) (by decide))).trans (W_v2 m c (hsd c)),
       ((h.1 c).2 main_v3 (Pipeline.mem_restRefs_of main_v3 (by decide) (by decide))).trans (W_v3 m c (hsd c)), h.2 c⟩)
    (θ_run_and (run_main m ρ) (unchanged m ρ))

end Cert.KernelIdeal.Hand

end
-- ==== Proof.RGather.lean ====
/-
  The reference's two gathers, its joined start indices and its contraction, each read at an index.
-/
module

public import proofs.«01_k».proof.Proof.Gen.ReferenceIdeal.Read
public import proofs.«01_k».proof.Proof.SpecVal
public import Idealize.ShloMosaic.Lib.Pointwise
public import Idealize.ShloMosaic.Lib.TwoAxisContraction

@[expose] public section

set_option maxRecDepth 16384

noncomputable section

namespace Cert.ReferenceIdeal.Hand

open Cert.ReferenceIdeal Cert.ReferenceIdeal.Gen Cert.Maddness
open Idealize.ShloMosaic Idealize.ShloMosaic.TcCoe
open Idealize.ShloMosaic.ValueIdx (contrEquiv2 contrEquiv2_symm_val0 contrEquiv2_symm_val1)

/-- The gather of coordinates of `x`: entry `(b, s, k, l)` is `x` at the coordinate the indices hold for `(k, l)`. -/
theorem gatherX_apply (x : Vec Ideal S2x128x7168 .bf16) (idx : IVec S224x4x1 32) (b : Fin 2) (s : Fin 128) (k : Fin 224) (l : Fin 4)
    (q : Fin 7168) (hq : (idx (ix3 k l 0)).toInt = q.val) :
    Host.gather gather_S2x128x7168_S224x4x1_S2x128x224x4_01_2_n_n_2_2_21281 x idx (ix4 b s k l) = x (ix3 b s q) := by
  unfold Host.gather
  refine congrArg x (funext fun a => Fin.ext ?_)
  match a with
  | ⟨0, _⟩ =>
    show GatherDims.start _ _ idx 0 + GatherDims.batchCoord _ _ 0 + GatherDims.offCoord _ _ 0 = b.val
    rw [GatherDims.batchCoord_eq_zero _ _ _ List.not_mem_nil]
    rw [show GatherDims.start gather_S2x128x7168_S224x4x1_S2x128x224x4_01_2_n_n_2_2_21281 (ix4 b s k l) idx 0 = 0 from dif_neg (by decide)]
    simp only [Nat.zero_add]
    rfl
  | ⟨1, _⟩ =>
    show GatherDims.start _ _ idx 1 + GatherDims.batchCoord _ _ 1 + GatherDims.offCoord _ _ 1 = s.val
    rw [GatherDims.batchCoord_eq_zero _ _ _ List.not_mem_nil]
    rw [show GatherDims.start gather_S2x128x7168_S224x4x1_S2x128x224x4_01_2_n_n_2_2_21281 (ix4 b s k l) idx 1 = 0 from dif_neg (by decide)]
    simp only [Nat.zero_add]
    rfl
  | ⟨2, _⟩ =>
    show GatherDims.start _ _ idx 2 + GatherDims.batchCoord _ _ 2 + GatherDims.offCoord _ _ 2 = q.val
    rw [GatherDims.batchCoord_eq_zero _ _ _ List.not_mem_nil, GatherDims.offCoord_eq_zero _ _ _ (by decide)]
    simp only [Nat.add_zero]
    unfold GatherDims.start
    rw [dif_pos (by decide)]
    have hsi : GatherDims.siIdx gather_S2x128x7168_S224x4x1_S2x128x224x4_01_2_n_n_2_2_21281 (ix4 b s k l) ⟨0, by decide⟩ = ix3 k l 0 := by
      funext b'; refine Fin.ext ?_
      match b' with
      | ⟨0, _⟩ => rfl
      | ⟨1, _⟩ => rfl
      | ⟨2, _⟩ => rfl
    show min (idx (GatherDims.siIdx _ (ix4 b s k l) ⟨0, _⟩)).toInt.toNat (7168 - 1) = q.val
    rw [hsi, hq]
    have := q.isLt
    simp only [Int.toNat_natCast]
    omega

/-- The gather of thresholds: entry `(b, s, k)` is the threshold at the codebook and node the indices hold for `(b, s, k)`. -/
theorem gatherT_apply (x : Vec Ideal S224x15 .bf16) (idx : IVec S2x128x224x2 32) (b : Fin 2) (s : Fin 128) (k : Fin 224)
    (q : Fin 224) (n : Fin 15) (hq : (idx (ix4 b s k 0)).toInt = q.val) (hn : (idx (ix4 b s k 1)).toInt = n.val) :
    Host.gather gather_S224x15_S2x128x224x2_S2x128x224_n_01_n_n_01_3_11 x idx (ix3 b s k) = x (ix2 q n) := by
  unfold Host.gather
  refine congrArg x (funext fun a => Fin.ext ?_)
  match a with
  | ⟨0, _⟩ =>
    show GatherDims.start _ _ idx 0 + GatherDims.batchCoord _ _ 0 + GatherDims.offCoord _ _ 0 = q.val
    rw [GatherDims.batchCoord_eq_zero _ _ _ List.not_mem_nil, GatherDims.offCoord_eq_zero _ _ _ (by decide)]
    simp only [Nat.add_zero]
    unfold GatherDims.start
    rw [dif_pos (by decide)]
    have hsi : GatherDims.siIdx gather_S224x15_S2x128x224x2_S2x128x224_n_01_n_n_01_3_11 (ix3 b s k) ⟨0, by decide⟩ = ix4 b s k 0 := by
      funext b'; refine Fin.ext ?_
      match b' with
      | ⟨0, _⟩ => rfl
      | ⟨1, _⟩ => rfl
      | ⟨2, _⟩ => rfl
      | ⟨3, _⟩ => rfl
    show min (idx (GatherDims.siIdx _ (ix3 b s k) ⟨0, _⟩)).toInt.toNat (224 - 1) = q.val
    rw [hsi, hq]
    have := q.isLt
    simp only [Int.toNat_natCast]
    omega
  | ⟨1, _⟩ =>
    show GatherDims.start _ _ idx 1 + GatherDims.batchCoord _ _ 1 + GatherDims.offCoord _ _ 1 = n.val
    rw [GatherDims.batchCoord_eq_zero _ _ _ List.not_mem_nil, GatherDims.offCoord_eq_zero _ _ _ (by decide)]
    simp only [Nat.add_zero]
    unfold GatherDims.start
    rw [dif_pos (by decide)]
    have hsi : GatherDims.siIdx gather_S224x15_S2x128x224x2_S2x128x224_n_01_n_n_01_3_11 (ix3 b s k) ⟨1, by decide⟩ = ix4 b s k 1 := by
      funext b'; refine Fin.ext ?_
      match b' with
      | ⟨0, _⟩ => rfl
      | ⟨1, _⟩ => rfl
      | ⟨2, _⟩ => rfl
      | ⟨3, _⟩ => rfl
    show min (idx (GatherDims.siIdx _ (ix3 b s k) ⟨1, _⟩)).toInt.toNat (15 - 1) = n.val
    rw [hsi, hn]
    have := n.isLt
    simp only [Int.toNat_natCast]
    omega

/-- The start indices of the threshold gathers: the codebook first. -/
theorem concat_zero (u v : IVec S2x128x224x1 32) (b : Fin 2) (s : Fin 128) (k : Fin 224) :
    concatenate S2x128x224x2 3 [⟨S2x128x224x1, u⟩, ⟨S2x128x224x1, v⟩] concatenates_S2x128x224x1_S2x128x224x1_S2x128x224x2_d3 (ix4 b s k (0 : Fin 2))
      = u (ix4 b s k (0 : Fin 1)) := by
  pointwise

/-- The start indices of the threshold gathers: the node second. -/
theorem concat_one (u v : IVec S2x128x224x1 32) (b : Fin 2) (s : Fin 128) (k : Fin 224) :
    concatenate S2x128x224x2 3 [⟨S2x128x224x1, u⟩, ⟨S2x128x224x1, v⟩] concatenates_S2x128x224x1_S2x128x224x1_S2x128x224x2_d3 (ix4 b s k (1 : Fin 2))
      = v (ix4 b s k (0 : Fin 1)) := by
  pointwise

/-- The contraction over codebooks and nodes, as a sum. -/
theorem dot_apply (u : FVec Ideal S2x128x224x16 .bf16) (v : FVec Ideal S224x16x18432 .bf16) (b : Fin 2) (s : Fin 128) (d : Fin 18432) :
    Host.dotGeneral (F := Ideal) (φ₁ := .bf16) (φ₂ := .bf16) dot_S2x128x224x16_S224x16x18432_S2x128x18432_32_10_01_2_n_n none u v (ix3 b s d)
      = ∑ k : Fin 224, ∑ j : Fin 16, u (ix4 b s k j) * v (ix3 k j d) := by
  rw [Finset.sum_comm]
  let D := dot_S2x128x224x16_S224x16x18432_S2x128x18432_32_10_01_2_n_n
  have hr : D.contr.rank = 2 := rfl
  have c0 : D.contr.size ⟨0, by rw [hr]; omega⟩ = 16 := rfl
  have c1 : D.contr.size ⟨1, by rw [hr]; omega⟩ = 224 := rfl
  show FloatOps.dotGeneral (F := Ideal) D none _ u v (ix3 b s d) = _
  rw [Ideal.dotGeneral_apply, ← Equiv.sum_comp (contrEquiv2 D 16 224 hr c0 c1).symm, Fintype.sum_prod_type]
  refine Finset.sum_congr rfl fun j _ => Finset.sum_congr rfl fun k _ => ?_
  have h0 := contrEquiv2_symm_val0 D 16 224 hr c0 c1 (j, k)
  have h1 := contrEquiv2_symm_val1 D 16 224 hr c0 c1 (j, k)
  have el : D.lhsIdx (ix3 b s d) ((contrEquiv2 D 16 224 hr c0 c1).symm (j, k)) = ix4 b s k j := by
    funext a; apply Fin.ext
    match a with
    | ⟨0, _⟩ => rfl
    | ⟨1, _⟩ => rfl
    | ⟨2, _⟩ => exact h1
    | ⟨3, _⟩ => exact h0
  have er : D.rhsIdx (ix3 b s d) ((contrEquiv2 D 16 224 hr c0 c1).symm (j, k)) = ix3 k j d := by
    funext a; apply Fin.ext
    match a with
    | ⟨0, _⟩ => exact h1
    | ⟨1, _⟩ => exact h0
    | ⟨2, _⟩ => rfl
  rw [el, er]

end Cert.ReferenceIdeal.Hand

end
-- ==== Proof.RVal.lean ====
/-
  The reference's results at an index: the codes are the leaves, the output the table sums.
-/
module

public import proofs.«01_k».proof.Proof.RGather

@[expose] public section

set_option maxRecDepth 16384

noncomputable section

namespace Cert.ReferenceIdeal.Hand

open Cert.ReferenceIdeal Cert.ReferenceIdeal.Gen Cert.ReferenceIdeal.Read Cert.Maddness
open Idealize.ShloMosaic Idealize.ShloMosaic.TcCoe

/-- A number below `2 ^ 31`, as a word read signed, is itself. -/
theorem toInt_small (n : ℕ) (h : n < 2147483648) : (BitVec.ofNat 32 n).toInt = n := by
  rw [BitVec.toInt_eq_toNat_cond, BitVec.toNat_ofNat, Nat.mod_eq_of_lt (by omega), if_pos (by omega)]

/-- A word below `2 ^ 31` is not negative: wrapping it leaves it as it is. -/
theorem wrap_nonneg (w c : BitVec 32) (h : 0 ≤ w.toInt) : Scalar.select (IntOp.cmpi .slt w 0#32) (IntOp.addi w c) w = w := by
  have e : w.slt 0#32 = false := by rw [BitVec.slt, decide_eq_false_iff_not]; simpa using h
  show (if (BitVec.ofBool (w.slt 0#32)) = 1#1 then _ else _) = w
  rw [e]; rfl

/-- The threshold gather whose node index is `w`: at a node below 15 it reads that node's threshold of the codebook. -/
theorem thr_read (x2 : Vec Ideal S224x15 .bf16) (w : IVec S2x128x224 32) (b : Fin 2) (s : Fin 128) (k : Fin 224) (n : ℕ) (hn : n < 15)
    (hw : w (ix3 b s k) = BitVec.ofNat 32 n) :
    Host.gather gather_S224x15_S2x128x224x2_S2x128x224_n_01_n_n_01_3_11 x2
      (concatenate S2x128x224x2 3
        [⟨S2x128x224x1, broadcastInDim S2x128x224x1 ![0, 1, 2] bcast_S2x128x224_S2x128x224x1_0_1_2 (broadcastInDim S2x128x224 ![2] bcast_S224_S2x128x224_2
            (select (cmpi .slt (iotaInDim S224 32 0) (broadcastInDim S224 ![] bcast_S_S224 (constantI S_ 32 0#32)))
              (addi (iotaInDim S224 32 0) (broadcastInDim S224 ![] bcast_S_S224 (constantI S_ 32 224#32))) (iotaInDim S224 32 0)))⟩,
         ⟨S2x128x224x1, broadcastInDim S2x128x224x1 ![0, 1, 2] bcast_S2x128x224_S2x128x224x1_0_1_2
            (select (cmpi .slt w (broadcastInDim S2x128x224 ![] bcast_S_S2x128x224 (constantI S_ 32 0#32)))
              (addi w (broadcastInDim S2x128x224 ![] bcast_S_S2x128x224 (constantI S_ 32 15#32))) w)⟩]
        concatenates_S2x128x224x1_S2x128x224x1_S2x128x224x2_d3) (ix3 b s k)
      = thrAt (fun n => x2 (ix2 k n)) n := by
  have hk := k.isLt
  rw [gatherT_apply x2 _ b s k k ⟨n, hn⟩, thrAt, dif_pos hn]
  · rw [concat_zero]
    pointwise
    rw [wrap_nonneg _ _ (by rw [toInt_small _ (by omega)]; omega), toInt_small _ (by omega)]
  · rw [concat_one]
    pointwise
    rw [hw, wrap_nonneg _ _ (by rw [toInt_small _ (by omega)]; omega), toInt_small _ (by omega)]

section

variable (x0 : Vec Ideal S2x128x7168 .bf16) (x1 : Vec Ideal S224x4 .i32) (x2 : Vec Ideal S224x15 .bf16)
  (b : Fin 2) (s : Fin 128) (k : Fin 224)

/-- The values codebook `k`'s walk compares, for token `(b, s)`. -/
abbrev vals (l : Fin 4) : EReal := x0 (ix3 b s ⟨(BitVec.toNat (x1 (ix2 k l))) % 7168, Nat.mod_lt _ (by decide)⟩)
/-- Codebook `k`'s thresholds. -/
abbrev thrs (n : Fin 15) : EReal := x2 (ix2 k n)

/-- The gathered values are the token's values at the codebook's split dimensions. -/
theorem v6_apply (hsd : ∀ (k : Fin 224) (l : Fin 4), (BitVec.toNat (x1 (ix2 k l))) < 7168) (l : Fin 4) :
    val_main_v6 (F := Ideal) x0 x1 (ix4 b s k l) = vals x0 x1 b s k l := by
  have h := hsd k l
  unfold val_main_v6
  refine gatherX_apply x0 _ b s k l _ ?_
  have e : BitVec.toInt (x1 (ix2 k l)) = (BitVec.toNat (x1 (ix2 k l)) : ℤ) := by
    rw [BitVec.toInt_eq_toNat_cond, if_pos (by omega)]
  pointwise [val_main_v5, val_main_v4, val_main_v3, val_main_v1, val_main_v0, val_main_v2, val_main_c, val_main_c_0]
  rw [wrap_nonneg _ _ (by rw [e]; omega), e]
  show _ = ((BitVec.toNat (x1 (ix2 k l)) % 7168 : ℕ) : ℤ)
  rw [Nat.mod_eq_of_lt h]

/-- A comparison's bit, widened to a word. -/
theorem bit_word (v t : EReal) : (FloatOps.cmpf (F := Ideal) (φ := .bf16) .ogt v t).setWidth 32 = BitVec.ofNat 32 (bit v t) := by
  show (BitVec.ofBool (decide (t < v))).setWidth 32 = _
  by_cases h : t < v
  · rw [bit_pos h, decide_eq_true h]; rfl
  · rw [bit_neg h, decide_eq_false h]; rfl

/-- The value level 0 compares. -/
theorem v27_apply (hsd : ∀ (k : Fin 224) (l : Fin 4), (BitVec.toNat (x1 (ix2 k l))) < 7168) :
    val_main_v27 (F := Ideal) x0 x1 (ix3 b s k) = vals x0 x1 b s k 0 := by
  rw [← v6_apply x0 x1 b s k hsd 0]
  pointwise [val_main_v27, val_main_v26]

/-- The root's node index. -/
theorem v10_apply : val_main_v10 (F := Ideal) (ix3 b s k) = BitVec.ofNat 32 0 := by
  pointwise [val_main_v10, val_main_v9, val_main_v8, val_main_c_2, val_main_c_1]
  rfl

/-- The walk after level 0. -/
theorem v32_apply (hsd : ∀ (k : Fin 224) (l : Fin 4), (BitVec.toNat (x1 (ix2 k l))) < 7168) :
    val_main_v32 (F := Ideal) x0 x1 x2 (ix3 b s k) = BitVec.ofNat 32 (node1 (vals x0 x1 b s k) (thrs x2 k)) := by
  have ht : val_main_v25 (F := Ideal) x2 (ix3 b s k) = thrAt (thrs x2 k) 0 :=
    thr_read x2 (val_main_v10 (F := Ideal)) b s k 0 (by omega) (v10_apply b s k)
  have hb : val_main_v29 (F := Ideal) x0 x1 x2 (ix3 b s k) = BitVec.ofNat 32 (bit (vals x0 x1 b s k 0) (thrAt (thrs x2 k) 0)) := by
    rw [val_main_v29_apply, val_main_v28_apply, ht, v27_apply x0 x1 b s k hsd, bit_word]
  rw [val_main_v32_apply, val_main_v31_apply, hb]
  pointwise [val_main_v30, val_main_c_7, val_main_v8, val_main_c_1]
  exact BitVec.zero_add _

/-- The value level 1 compares. -/
theorem v51_apply (hsd : ∀ (k : Fin 224) (l : Fin 4), (BitVec.toNat (x1 (ix2 k l))) < 7168) :
    val_main_v51 (F := Ideal) x0 x1 (ix3 b s k) = vals x0 x1 b s k 1 := by
  rw [← v6_apply x0 x1 b s k hsd 1]
  pointwise [val_main_v51, val_main_v50]

/-- Level 1's node index. -/
theorem v34_apply (hsd : ∀ (k : Fin 224) (l : Fin 4), (BitVec.toNat (x1 (ix2 k l))) < 7168) :
    val_main_v34 (F := Ideal) x0 x1 x2 (ix3 b s k) = BitVec.ofNat 32 (1 + node1 (vals x0 x1 b s k) (thrs x2 k)) := by
  pointwise [val_main_v34, val_main_v33, val_main_c_8]
  rw [v32_apply x0 x1 x2 b s k hsd, BitVec.ofNat_add]
  rfl

/-- The walk after level 1. -/
theorem v56_apply (hsd : ∀ (k : Fin 224) (l : Fin 4), (BitVec.toNat (x1 (ix2 k l))) < 7168) :
    val_main_v56 (F := Ideal) x0 x1 x2 (ix3 b s k) = BitVec.ofNat 32 (node2 (vals x0 x1 b s k) (thrs x2 k)) := by
  have ht : val_main_v49 (F := Ideal) x0 x1 x2 (ix3 b s k) = thrAt (thrs x2 k) (1 + node1 (vals x0 x1 b s k) (thrs x2 k)) :=
    thr_read x2 (val_main_v34 (F := Ideal) x0 x1 x2) b s k (1 + node1 (vals x0 x1 b s k) (thrs x2 k)) (by have := node1_lt (vals x0 x1 b s k) (thrs x2 k); omega) (v34_apply x0 x1 x2 b s k hsd)
  have hb : val_main_v53 (F := Ideal) x0 x1 x2 (ix3 b s k) = BitVec.ofNat 32 (bit (vals x0 x1 b s k 1) (thrAt (thrs x2 k) (1 + node1 (vals x0 x1 b s k) (thrs x2 k)))) := by
    rw [val_main_v53_apply, val_main_v52_apply, ht, v51_apply x0 x1 b s k hsd, bit_word]
  rw [val_main_v56_apply, val_main_v55_apply, hb]
  pointwise [val_main_v54, val_main_c_13]
  rw [v32_apply x0 x1 x2 b s k hsd, node2, BitVec.ofNat_add, BitVec.ofNat_mul]
  rfl

/-- The value level 2 compares. -/
theorem v75_apply (hsd : ∀ (k : Fin 224) (l : Fin 4), (BitVec.toNat (x1 (ix2 k l))) < 7168) :
    val_main_v75 (F := Ideal) x0 x1 (ix3 b s k) = vals x0 x1 b s k 2 := by
  rw [← v6_apply x0 x1 b s k hsd 2]
  pointwise [val_main_v75, val_main_v74]

/-- Level 2's node index. -/
theorem v58_apply (hsd : ∀ (k : Fin 224) (l : Fin 4), (BitVec.toNat (x1 (ix2 k l))) < 7168) :
    val_main_v58 (F := Ideal) x0 x1 x2 (ix3 b s k) = BitVec.ofNat 32 (3 + node2 (vals x0 x1 b s k) (thrs x2 k)) := by
  pointwise [val_main_v58, val_main_v57, val_main_c_14]
  rw [v56_apply x0 x1 x2 b s k hsd, BitVec.ofNat_add]
  rfl

/-- The walk after level 2. -/
theorem v80_apply (hsd : ∀ (k : Fin 224) (l : Fin 4), (BitVec.toNat (x1 (ix2 k l))) < 7168) :
    val_main_v80 (F := Ideal) x0 x1 x2 (ix3 b s k) = BitVec.ofNat 32 (node3 (vals x0 x1 b s k) (thrs x2 k)) := by
  have ht : val_main_v73 (F := Ideal) x0 x1 x2 (ix3 b s k) = thrAt (thrs x2 k) (3 + node2 (vals x0 x1 b s k) (thrs x2 k)) :=
    thr_read x2 (val_main_v58 (F := Ideal) x0 x1 x2) b s k (3 + node2 (vals x0 x1 b s k) (thrs x2 k)) (by have := node2_lt (vals x0 x1 b s k) (thrs x2 k); omega) (v58_apply x0 x1 x2 b s k hsd)
  have hb : val_main_v77 (F := Ideal) x0 x1 x2 (ix3 b s k) = BitVec.ofNat 32 (bit (vals x0 x1 b s k 2) (thrAt (thrs x2 k) (3 + node2 (vals x0 x1 b s k) (thrs x2 k)))) := by
    rw [val_main_v77_apply, val_main_v76_apply, ht, v75_apply x0 x1 b s k hsd, bit_word]
  rw [val_main_v80_apply, val_main_v79_apply, hb]
  pointwise [val_main_v78, val_main_c_19]
  rw [v56_apply x0 x1 x2 b s k hsd, node3, BitVec.ofNat_add, BitVec.ofNat_mul]
  rfl

/-- The value level 3 compares. -/
theorem v99_apply (hsd : ∀ (k : Fin 224) (l : Fin 4), (BitVec.toNat (x1 (ix2 k l))) < 7168) :
    val_main_v99 (F := Ideal) x0 x1 (ix3 b s k) = vals x0 x1 b s k 3 := by
  rw [← v6_apply x0 x1 b s k hsd 3]
  pointwise [val_main_v99, val_main_v98]

/-- Level 3's node index. -/
theorem v82_apply (hsd : ∀ (k : Fin 224) (l : Fin 4), (BitVec.toNat (x1 (ix2 k l))) < 7168) :
    val_main_v82 (F := Ideal) x0 x1 x2 (ix3 b s k) = BitVec.ofNat 32 (7 + node3 (vals x0 x1 b s k) (thrs x2 k)) := by
  pointwise [val_main_v82, val_main_v81, val_main_c_20]
  rw [v80_apply x0 x1 x2 b s k hsd, BitVec.ofNat_add]
  rfl

/-- The walk after level 3. -/
theorem v104_apply (hsd : ∀ (k : Fin 224) (l : Fin 4), (BitVec.toNat (x1 (ix2 k l))) < 7168) :
    val_main_v104 (F := Ideal) x0 x1 x2 (ix3 b s k) = BitVec.ofNat 32 (leaf (vals x0 x1 b s k) (thrs x2 k)) := by
  have ht : val_main_v97 (F := Ideal) x0 x1 x2 (ix3 b s k) = thrAt (thrs x2 k) (7 + node3 (vals x0 x1 b s k) (thrs x2 k)) :=
    thr_read x2 (val_main_v82 (F := Ideal) x0 x1 x2) b s k (7 + node3 (vals x0 x1 b s k) (thrs x2 k)) (by have := node3_lt (vals x0 x1 b s k) (thrs x2 k); omega) (v82_apply x0 x1 x2 b s k hsd)
  have hb : val_main_v101 (F := Ideal) x0 x1 x2 (ix3 b s k) = BitVec.ofNat 32 (bit (vals x0 x1 b s k 3) (thrAt (thrs x2 k) (7 + node3 (vals x0 x1 b s k) (thrs x2 k)))) := by
    rw [val_main_v101_apply, val_main_v100_apply, ht, v99_apply x0 x1 b s k hsd, bit_word]
  rw [val_main_v104_apply, val_main_v103_apply, hb]
  pointwise [val_main_v102, val_main_c_25]
  rw [v80_apply x0 x1 x2 b s k hsd, leaf, BitVec.ofNat_add, BitVec.ofNat_mul]
  rfl

/-- The reference's codes are the leaves. -/
theorem v105_apply (hsd : ∀ (k : Fin 224) (l : Fin 4), (BitVec.toNat (x1 (ix2 k l))) < 7168) :
    val_main_v105 (F := Ideal) x0 x1 x2 (ix3 b s k) = codeOf x0 x1 x2 b s k := by
  rw [val_main_v105_apply, v104_apply x0 x1 x2 b s k hsd]
  show _ = BitVec.ofNat 8 (leaf (vals x0 x1 b s k) (thrs x2 k))
  have h := leaf_lt (vals x0 x1 b s k) (thrs x2 k)
  generalize leaf (vals x0 x1 b s k) (thrs x2 k) = n at h ⊢
  revert h; revert n; decide +kernel

/-- Two codes below 16, compared as bytes and widened to a number: one when equal, zero otherwise. -/
theorem hot_word (n j : ℕ) (hn : n < 16) (hj : j < 16) :
    (FloatOps.uitofp (F := Ideal) .bf16 (IntOp.cmpi .eq (BitVec.ofNat 8 n) (BitVec.ofNat 8 j)) : EReal) = if n = j then (1 : EReal) else 0 := by
  have e : IntOp.cmpi .eq (BitVec.ofNat 8 n) (BitVec.ofNat 8 j) = BitVec.ofBool (decide (n = j)) :=
    (by decide +kernel : ∀ n < 16, ∀ j < 16, IntOp.cmpi .eq (BitVec.ofNat 8 n) (BitVec.ofNat 8 j) = BitVec.ofBool (decide (n = j))) n hn j hj
  rw [e]
  show ((((BitVec.ofBool (decide (n = j))).toNat : ℕ) : ℝ) : EReal) = _
  by_cases h : n = j
  · rw [decide_eq_true h, if_pos h]; simp
  · rw [decide_eq_false h, if_neg h]; simp

/-- The reference's one-hot rows. -/
theorem v113_apply (hsd : ∀ (k : Fin 224) (l : Fin 4), (BitVec.toNat (x1 (ix2 k l))) < 7168) (j : Fin 16) :
    val_main_v113 (F := Ideal) x0 x1 x2 (ix4 b s k j) = if leafOf x0 x1 x2 b s k = j.val then (1 : EReal) else 0 := by
  have hc : val_main_v110 (F := Ideal) x0 x1 x2 (ix4 b s k j) = BitVec.ofNat 8 (leafOf x0 x1 x2 b s k) := by
    refine Eq.trans ?_ (v105_apply x0 x1 x2 b s k hsd)
    pointwise [val_main_v110, val_main_v106]
  have hi : val_main_v111 (F := Ideal) (ix4 b s k j) = BitVec.ofNat 8 j.val := by
    pointwise [val_main_v111, val_main_v109, val_main_v108, val_main_v107]
    have h := j.isLt
    generalize j.val = n at h ⊢
    revert h; revert n; decide +kernel
  rw [val_main_v113_apply, val_main_v112_apply, hc, hi]
  exact hot_word _ _ (leaf_lt _ _) j.isLt

end

/-- The reference's tables: the words, times their codebook's scale. -/
theorem v119_apply (x3 : Vec Ideal S224x16x18432 .i8) (x4 : Vec Ideal S224 .f32) (k : Fin 224) (j : Fin 16) (d : Fin 18432) :
    val_main_v119 (F := Ideal) x3 x4 (ix3 k j d) = ((BitVec.toInt (x3 (ix3 k j d)) : ℝ) : EReal) * x4 (ix1 k) := by
  have h1 : val_main_v115 (F := Ideal) x3 (ix3 k j d) = ((BitVec.toInt (x3 (ix3 k j d)) : ℝ) : EReal) := by
    rw [val_main_v115_apply, val_main_v114_apply]
    show (((BitVec.toInt ((x3 (ix3 k j d)).signExtend 32) : ℤ) : ℝ) : EReal) = _
    rw [BitVec.toInt_signExtend_of_le (by decide)]
  have h2 : val_main_v118 (F := Ideal) x4 (ix3 k j d) = x4 (ix1 k) := by
    pointwise [val_main_v118, val_main_v117, val_main_v116]
  rw [val_main_v119_apply, h1, h2]
  rfl

/-- The reference's output is the table sums. -/
theorem v121_apply (x0 : Vec Ideal S2x128x7168 .bf16) (x1 : Vec Ideal S224x4 .i32) (x2 : Vec Ideal S224x15 .bf16)
    (x3 : Vec Ideal S224x16x18432 .i8) (x4 : Vec Ideal S224 .f32) (b : Fin 2) (s : Fin 128) (d : Fin 18432)
    (hsd : ∀ (k : Fin 224) (l : Fin 4), (BitVec.toNat (x1 (ix2 k l))) < 7168) :
    val_main_v121 (F := Ideal) x0 x1 x2 x3 x4 (ix3 b s d) = outOf x0 x1 x2 x3 x4 b s d := by
  refine (show val_main_v121 (F := Ideal) x0 x1 x2 x3 x4 (ix3 b s d) = val_main_v120 (F := Ideal) x0 x1 x2 x3 x4 (ix3 b s d) from rfl).trans ?_
  unfold val_main_v120
  rw [dot_apply]
  unfold outOf
  refine Finset.sum_congr rfl fun k _ => Finset.sum_congr rfl fun j _ => ?_
  rw [v113_apply x0 x1 x2 b s k hsd j, v119_apply]

end Cert.ReferenceIdeal.Hand

end
-- ==== Proof.Value.lean ====
/-
  The value claim: what the precondition says, and the two programs' results against each other.
-/
module

public import proofs.«01_k».proof.Defs
public import proofs.«01_k».proof.Proof.VFinal
public import proofs.«01_k».proof.Proof.RVal
public import proofs.«01_k».proof.Proof.Gen.ReferenceIdeal.Run
public import proofs.«01_k».proof.Proof.Gen.Pre_dims_in_tile

@[expose] public section

set_option maxRecDepth 16384

noncomputable section

namespace Cert.Proof

open Idealize.ShloMosaic Idealize.ShloMosaic.TcCoe Idealize.SL.Sem Cert.Maddness

attribute [local instance] Cert.Pre_dims_in_tile.Gen.facts

/-- A word compared signed as `128 (k / 4) ≤ w` and `w < 128 (k / 4) + 128`, for `k < 224`, lies between as a number. -/
theorem between (k : ℕ) (hk : k < 224) (w : BitVec 32)
    (h : IntOp.andi (IntOp.cmpi .sge w (IntOp.andi (IntOp.muli 32#32 (BitVec.ofNat 32 k)) 4294967168#32))
      (IntOp.cmpi .slt w (IntOp.addi (IntOp.andi (IntOp.muli 32#32 (BitVec.ofNat 32 k)) 4294967168#32) 128#32)) = 1#1) :
    128 * (k / 4) ≤ w.toNat ∧ w.toNat < 128 * (k / 4) + 128 := by
  have e1 : IntOp.andi (IntOp.muli 32#32 (BitVec.ofNat 32 k)) 4294967168#32 = BitVec.ofNat 32 (128 * (k / 4)) :=
    (by decide +kernel : ∀ k < 224, IntOp.andi (IntOp.muli 32#32 (BitVec.ofNat 32 k)) 4294967168#32 = BitVec.ofNat 32 (128 * (k / 4))) k hk
  have e2 : IntOp.addi (BitVec.ofNat 32 (128 * (k / 4))) 128#32 = BitVec.ofNat 32 (128 * (k / 4) + 128) := by rw [BitVec.ofNat_add]; rfl
  rw [e1, e2] at h
  have t : ∀ n < 8000, (BitVec.ofNat 32 n).toInt = (n : ℤ) := fun n hn => by
    rw [BitVec.toInt_eq_toNat_cond, BitVec.toNat_ofNat, Nat.mod_eq_of_lt (by omega), if_pos (by omega)]
  have h' : BitVec.ofBool ((BitVec.ofNat 32 (128 * (k / 4))).sle w) &&& BitVec.ofBool (w.slt (BitVec.ofNat 32 (128 * (k / 4) + 128))) = 1#1 := h
  have hb : (BitVec.ofNat 32 (128 * (k / 4))).sle w = true ∧ w.slt (BitVec.ofNat 32 (128 * (k / 4) + 128)) = true := by
    revert h'
    generalize (BitVec.ofNat 32 (128 * (k / 4))).sle w = p
    generalize w.slt (BitVec.ofNat 32 (128 * (k / 4) + 128)) = q
    revert p q; decide
  have h1 : (BitVec.ofNat 32 (128 * (k / 4))).toInt ≤ w.toInt := of_decide_eq_true hb.1
  have h2 : w.toInt < (BitVec.ofNat 32 (128 * (k / 4) + 128)).toInt := of_decide_eq_true hb.2
  rw [t _ (by omega)] at h1
  rw [t _ (by omega)] at h2
  rw [BitVec.toInt_eq_toNat_cond] at h1 h2
  have := w.isLt
  split at h1 <;> omega

/-- The precondition bounds each codebook's split dimensions. -/
theorem inTile (x0 : Vec Ideal ⟨3, ![2, 128, 7168]⟩ .bf16) (x1 : Vec Ideal ⟨2, ![224, 4]⟩ .i32) (x2 : Vec Ideal ⟨2, ![224, 15]⟩ .bf16)
    (x3 : Vec Ideal ⟨3, ![224, 16, 18432]⟩ .i8) (x4 : Vec Ideal ⟨1, ![224]⟩ .f32)
    (h : Cert.Pre_dims_in_tile.fn (F := Ideal) x0 x1 x2 x3 x4 = fun _ => 1#1) : Cert.KernelIdeal.Hand.InTile x1 := by
  intro k l
  refine between k.val k.isLt _ ?_
  have e := congrFun h (ix2 k l)
  rw [← e]
  pointwise [Cert.Pre_dims_in_tile.fn]

section

open Cert.ReferenceIdeal

variable (m : (ℓ : Loc nD τ sig) → Buf (Elt Ideal) ℓ) (ρ : Dev nD → PrngReg)

/-- The reference's run: the codes are the leaves, the output the table sums, every argument unchanged. -/
theorem ref_run (hsd : ∀ c : Dev nD, Cert.KernelIdeal.Hand.InTile (m ((c.tc : Thread nD τ).loc main_arg1))) :
    θ_run defs (onTc (τ := τ) (main (F := Ideal))) ⟨m, fun _ => 0, ρ⟩ (fun r => ∀ c : Dev nD,
      r.2.mem ((c.tc : Thread nD τ).loc main_v121) = (fun i => outOf (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (i 0) (i 1) (i 2))
      ∧ r.2.mem ((c.tc : Thread nD τ).loc main_v105) = (fun i => codeOf (m ((c.tc : Thread nD τ).loc main_arg0)) (m ((c.tc : Thread nD τ).loc main_arg1))
          (m ((c.tc : Thread nD τ).loc main_arg2)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun _ h c => ⟨(h c).1.trans ?_, (h c).2.1.trans ?_, (h c).2.2⟩) (Value.run (F := Ideal) m ρ)
  all_goals have hb : ∀ (k : Fin 224) (l : Fin 4), (BitVec.toNat (m ((c.tc : Thread nD τ).loc main_arg1) (ix2 k l))) < 7168 :=
    fun k l => by have := (hsd c k l).2; have := k.isLt; omega
  · refine (Read.val_main_v121_eq (StableHlo.launchContents m c)).trans (funext fun i => ?_)
    obtain ⟨b, s, d, rfl⟩ : ∃ (b : Fin 2) (s : Fin 128) (d : Fin 18432), i = (ix3 b s d : S2x128x18432.Idx) :=
      ⟨i 0, i 1, i 2, eq_ix3 (n0 := 2) (n1 := 128) (n2 := 18432) i⟩
    exact Hand.v121_apply _ _ _ _ _ b s d hb
  · refine (Read.val_main_v105_eq (StableHlo.launchContents m c)).trans (funext fun i => ?_)
    obtain ⟨b, s, k, rfl⟩ : ∃ (b : Fin 2) (s : Fin 128) (k : Fin 224), i = (ix3 b s k : S2x128x224.Idx) :=
      ⟨i 0, i 1, i 2, eq_ix3 (n0 := 2) (n1 := 128) (n2 := 224) i⟩
    exact Hand.v105_apply _ _ _ b s k hb

end

/-- The kernel's and the reference's results are equal where the split dimensions lie in their codebooks' tiles. -/
theorem values (hK : Cert.KernelIdeal.Facts) (hR : Cert.ReferenceIdeal.Facts) (hP : Cert.Pre_dims_in_tile.Facts) :
    Cert.algebraic_KernelIdeal_ReferenceIdeal_pre_dims_in_tile (hKernelIdeal := hK) (hReferenceIdeal := hR) (hPre_dims_in_tile := hP) := by
  intro m g m' g' hpre hagree
  have hsd : ∀ c, Cert.KernelIdeal.Hand.InTile (Cert.KernelIdeal.Hand.aDims m c) := fun c => inTile _ _ _ _ _ (hpre c)
  refine ⟨_, _, Cert.KernelIdeal.Hand.run m g hsd, ?_⟩
  refine (θ_run _ _ _).mono (fun _ h c => ⟨(h c).1.trans ?_, (h c).2.1.trans ?_, (h c).2.2⟩) (ref_run m' g' fun c => by
    rw [(hagree c).2.1]; exact hsd c)
  · obtain ⟨h0, h1, h2, h3, h4⟩ := hagree c
    rw [h0, h1, h2, h3, h4]; rfl
  · obtain ⟨h0, h1, h2, h3, h4⟩ := hagree c
    rw [h0, h1, h2]; rfl

end Cert.Proof

end
-- ==== Proof.lean ====
/-
  The certificate: the frames, the bf16-pair rewrite's preservation and the value claim, put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.KFrame
public import proofs.«01_k».proof.Proof.PFrame
public import proofs.«01_k».proof.Proof.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_dims_in_tile
public import Idealize.ShloMosaic.Adequacy
public import Idealize.ShloMosaic.Init
public import Idealize.ShloMosaic.Lib.Bf16Pair

@[expose] public section

noncomputable section

namespace Cert.Proof

open Idealize.ShloMosaic Idealize.SL.Sem Cert.Kernel

/-- Every claim of the certificate: the frames of the kernel, of its ideal and of the reference, the preservation of the bf16-pair
    rewrite, and the equality of both results. -/
theorem claim : Cert.Claim := ⟨Cert.Kernel.Gen.facts, Cert.KernelIdeal.Gen.facts, Cert.ReferenceIdeal.Gen.facts, Cert.Pre_dims_in_tile.Gen.facts,
  fun m ρ _ => Cert.Kernel.Hand.frame m ρ,
  fun m ρ _ => Cert.KernelIdeal.Hand.frame m ρ, fun m ρ _ => Cert.KernelIdeal.Hand.frame m ρ,
  fun m ρ _ => (θ_run Cert.ReferenceIdeal.defs _ _).mono (fun r h => ⟨fun c => (h c).2.2, sem_eq_zero_of_no_sems (by decide) r.2⟩)
    (Cert.ReferenceIdeal.Value.run (F := Ideal) m ρ),
  fun m ρ _ => (θ_run Cert.ReferenceIdeal.defs _ _).mono (fun r h => ⟨fun c => (h c).2.2, sem_eq_zero_of_no_sems (by decide) r.2⟩)
    (Cert.ReferenceIdeal.Value.run (F := Ideal) m ρ),
  IdealRules.bf16_pair.statement Cert.KernelIdeal.S256x128 Cert.KernelIdeal.S128x128,
  values _ _ _⟩

end Cert.Proof

end
